-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_later_bias_finite [hPre_later_bias_finite : Cert.Pre_later_bias_finite.Facts] (m : (ℓ : Loc Cert.KernelIdeal.nD Cert.KernelIdeal.τ Cert.KernelIdeal.sig) → Buf (Elt Ideal) ℓ) : Prop :=
  ∀ c : Dev Cert.KernelIdeal.nD,
    (Cert.Pre_later_bias_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_later_bias_finite [hPre_later_bias_finite : Cert.Pre_later_bias_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_later_bias_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_later_bias_finite [hKernelIdeal : Cert.KernelIdeal.Facts] [hPre_later_bias_finite : Cert.Pre_later_bias_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_later_bias_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_later_bias_finite [hReferenceIdeal : Cert.ReferenceIdeal.Facts] [hPre_later_bias_finite : Cert.Pre_later_bias_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_later_bias_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_later_bias_finite [hKernelIdeal : Cert.KernelIdeal.Facts] [hReferenceIdeal : Cert.ReferenceIdeal.Facts] [hPre_later_bias_finite : Cert.Pre_later_bias_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_later_bias_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v101)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_later_bias_finite : Cert.Pre_later_bias_finite.Facts),
    quiescent_Kernel (hKernel := hKernel)
    ∧ quiescent_KernelIdeal (hKernelIdeal := hKernelIdeal)
    ∧ quiescent_KernelIdeal_pre_later_bias_finite (hKernelIdeal := hKernelIdeal) (hPre_later_bias_finite := hPre_later_bias_finite)
    ∧ quiescent_ReferenceIdeal (hReferenceIdeal := hReferenceIdeal)
    ∧ quiescent_ReferenceIdeal_pre_later_bias_finite (hReferenceIdeal := hReferenceIdeal) (hPre_later_bias_finite := hPre_later_bias_finite)
    ∧ preserves_Kernel_KernelIdeal
    ∧ algebraic_KernelIdeal_ReferenceIdeal_pre_later_bias_finite (hKernelIdeal := hKernelIdeal) (hReferenceIdeal := hReferenceIdeal) (hPre_later_bias_finite := hPre_later_bias_finite)
-- ==== Pre_later_bias_finite.lean ====
abbrev S2048x2048 : Shape := ⟨2, ![2048, 2048]⟩
abbrev S8x2048 : Shape := ⟨2, ![8, 2048]⟩
abbrev S8 : Shape := ⟨1, ![8]⟩
abbrev S8x2048x1024 : Shape := ⟨3, ![8, 2048, 1024]⟩
abbrev S8x1024x2048 : Shape := ⟨3, ![8, 1024, 2048]⟩
abbrev S7 : Shape := ⟨1, ![7]⟩
abbrev S_ : Shape := ⟨0, ![]⟩

class Facts : Prop where
  slices_S8_S7_1 : S8.Slices ![1] S7
  bcast_S_S7 : S_.BroadcastsInDim S7 (![] : Fin 0 → Fin S7.rank)
  reducesTo_S7_S_d0 : S7.ReducesTo [0] S_
  h_S_ : 0 < S_.numel

variable [Facts]

def fn {F : FTy → Type} [FloatOps F] (main_arg0 : FVec F S2048x2048 .f32) (main_arg1 : FVec F S8x2048 .f32) (main_arg2 : FVec F S8 .f32) (main_arg3 : FVec F S8x2048x1024 .f32) (main_arg4 : FVec F S8x2048x1024 .f32) (main_arg5 : FVec F S8x1024x2048 .f32) : IVec S_ 1 :=
  let main_v0 : FVec F S7 .f32 := (extractStridedSlice S7 ![1] · slices_S8_S7_1) main_arg2
  let main_cst : FVec F S_ .f32 := constant S_ .f32 0xFF800000#32
  let main_v1 : FVec F S7 .f32 := broadcastInDim S7 ![] bcast_S_S7 main_cst
  let main_v2 : IVec S7 1 := cmpf .ogt main_v0 main_v1
  let main_c : IVec S_ 1 := constantI S_ 1 0#1
  let main_v3 : IVec S_ 1 := (fun x v => Host.reduce IntOp.ori x v reducesTo_S7_S_d0 h_S_) main_v2 main_c
  main_v3
-- ==== Kernel.lean ====
abbrev S2048x2048 : Shape := ⟨2, ![2048, 2048]⟩
abbrev S8x2048 : Shape := ⟨2, ![8, 2048]⟩
abbrev S8 : Shape := ⟨1, ![8]⟩
abbrev S8x2048x1024 : Shape := ⟨3, ![8, 2048, 1024]⟩
abbrev S8x1024x2048 : Shape := ⟨3, ![8, 1024, 2048]⟩
abbrev S2048x8 : Shape := ⟨2, ![2048, 8]⟩
abbrev S1x8 : Shape := ⟨2, ![1, 8]⟩
abbrev S2048x2 : Shape := ⟨2, ![2048, 2]⟩
abbrev S512x2048 : Shape := ⟨2, ![512, 2048]⟩
abbrev S512x2 : Shape := ⟨2, ![512, 2]⟩
abbrev S512x8 : Shape := ⟨2, ![512, 8]⟩
abbrev S512 : Shape := ⟨1, ![512]⟩
abbrev S512x1 : Shape := ⟨2, ![512, 1]⟩
abbrev S4096 : Shape := ⟨1, ![4096]⟩
abbrev S4096x1 : Shape := ⟨2, ![4096, 1]⟩
abbrev S4096x8 : Shape := ⟨2, ![4096, 8]⟩
abbrev S_ : Shape := ⟨0, ![]⟩
abbrev S5888 : Shape := ⟨1, ![5888]⟩
abbrev S5888x1 : Shape := ⟨2, ![5888, 1]⟩
abbrev S4096x2 : Shape := ⟨2, ![4096, 2]⟩
abbrev S23 : Shape := ⟨1, ![23]⟩
abbrev S23x1 : Shape := ⟨2, ![23, 1]⟩
abbrev S23x8 : Shape := ⟨2, ![23, 8]⟩
abbrev S1 : Shape := ⟨1, ![1]⟩
abbrev S5888x2048 : Shape := ⟨2, ![5888, 2048]⟩
abbrev S256x2048 : Shape := ⟨2, ![256, 2048]⟩
abbrev S1x2048x1024 : Shape := ⟨3, ![1, 2048, 1024]⟩
abbrev S1x1024x2048 : Shape := ⟨3, ![1, 1024, 2048]⟩
abbrev S256x1 : Shape := ⟨2, ![256, 1]⟩
abbrev S2048x1024 : Shape := ⟨2, ![2048, 1024]⟩
abbrev S256x1024 : Shape := ⟨2, ![256, 1024]⟩
abbrev S1024x2048 : Shape := ⟨2, ![1024, 2048]⟩
abbrev S2048x1 : Shape := ⟨2, ![2048, 1]⟩
abbrev S2048 : Shape := ⟨1, ![2048]⟩

abbrev nBuf : Space → Nat
  | .hbm => 169
  | .vmem => 20
  | .smem => 2
  | _ => 0

abbrev hbmTy0_0 (i : Nat) : BufTy := match i % 128 with
  | 0 => ⟨S2048x2048, .f32⟩
  | 1 => ⟨S8x2048, .f32⟩
  | 2 => ⟨S8, .f32⟩
  | 3 => ⟨S8x2048x1024, .f32⟩
  | 4 => ⟨S8x2048x1024, .f32⟩
  | 5 => ⟨S8x1024x2048, .f32⟩
  | 6 => ⟨S2048x8, .f32⟩
  | 7 => ⟨S1x8, .f32⟩
  | 8 => ⟨S2048x2, .i32⟩
  | 9 => ⟨S2048x2, .f32⟩
  | 10 => ⟨S4096, .i32⟩
  | 11 => ⟨S4096, .f32⟩
  | 12 => ⟨S4096x1, .i32⟩
  | 13 => ⟨S8, .i32⟩
  | 14 => ⟨S1x8, .i32⟩
  | 15 => ⟨S4096x8, .i32⟩
  | 16 => ⟨S4096x8, .i32⟩
  | 17 => ⟨S4096x8, .i1⟩
  | 18 => ⟨S4096x8, .i32⟩
  | 19 => ⟨S_, .i32⟩
  | 20 => ⟨S8, .i32⟩
  | 21 => ⟨S_, .i32⟩
  | 22 => ⟨S8, .i32⟩
  | 23 => ⟨S8, .i32⟩
  | 24 => ⟨S_, .i32⟩
  | 25 => ⟨S8, .i32⟩
  | 26 => ⟨S8, .i32⟩
  | 27 => ⟨S_, .i32⟩
  | 28 => ⟨S_, .i32⟩
  | 29 => ⟨S8, .i32⟩
  | 30 => ⟨S8, .i32⟩
  | 31 => ⟨S8, .i32⟩
  | 32 => ⟨S_, .i32⟩
  | 33 => ⟨S8, .i32⟩
  | 34 => ⟨S8, .i1⟩
  | 35 => ⟨S8, .i32⟩
  | 36 => ⟨S8, .i32⟩
  | 37 => ⟨S_, .i32⟩
  | 38 => ⟨S8, .i32⟩
  | 39 => ⟨S8, .i1⟩
  | 40 => ⟨S8, .i1⟩
  | 41 => ⟨S_, .i32⟩
  | 42 => ⟨S8, .i32⟩
  | 43 => ⟨S8, .i32⟩
  | 44 => ⟨S8, .i32⟩
  | 45 => ⟨S_, .i32⟩
  | 46 => ⟨S8, .i32⟩
  | 47 => ⟨S8, .i32⟩
  | 48 => ⟨S_, .i32⟩
  | 49 => ⟨S_, .i32⟩
  | 50 => ⟨S8, .i32⟩
  | 51 => ⟨S8, .i32⟩
  | 52 => ⟨S_, .i32⟩
  | 53 => ⟨S_, .i32⟩
  | 54 => ⟨S4096x8, .i32⟩
  | 55 => ⟨S_, .i32⟩
  | 56 => ⟨S4096x8, .i32⟩
  | 57 => ⟨S4096x8, .i32⟩
  | 58 => ⟨S4096x8, .i32⟩
  | 59 => ⟨S_, .i32⟩
  | 60 => ⟨S4096, .i32⟩
  | 61 => ⟨S_, .i32⟩
  | 62 => ⟨S4096, .i32⟩
  | 63 => ⟨S4096, .i1⟩
  | 64 => ⟨S_, .i32⟩
  | 65 => ⟨S4096, .i32⟩
  | 66 => ⟨S4096, .i32⟩
  | 67 => ⟨S4096, .i32⟩
  | 68 => ⟨S4096x1, .i32⟩
  | 69 => ⟨S4096, .i32⟩
  | 70 => ⟨S4096, .i32⟩
  | 71 => ⟨S4096, .i32⟩
  | 72 => ⟨S_, .i32⟩
  | 73 => ⟨S_, .i32⟩
  | 74 => ⟨S4096, .i32⟩
  | 75 => ⟨S4096, .i32⟩
  | 76 => ⟨S4096, .i32⟩
  | 77 => ⟨S_, .i32⟩
  | 78 => ⟨S4096, .i32⟩
  | 79 => ⟨S4096, .i1⟩
  | 80 => ⟨S4096, .i32⟩
  | 81 => ⟨S4096, .i32⟩
  | 82 => ⟨S_, .i32⟩
  | 83 => ⟨S4096, .i32⟩
  | 84 => ⟨S4096, .i1⟩
  | 85 => ⟨S4096, .i1⟩
  | 86 => ⟨S_, .i32⟩
  | 87 => ⟨S4096, .i32⟩
  | 88 => ⟨S4096, .i32⟩
  | 89 => ⟨S4096, .i32⟩
  | 90 => ⟨S_, .i32⟩
  | 91 => ⟨S5888, .i32⟩
  | 92 => ⟨S_, .i32⟩
  | 93 => ⟨S4096, .i32⟩
  | 94 => ⟨S4096, .i1⟩
  | 95 => ⟨S_, .i32⟩
  | 96 => ⟨S4096, .i32⟩
  | 97 => ⟨S4096, .i32⟩
  | 98 => ⟨S4096, .i32⟩
  | 99 => ⟨S4096x1, .i32⟩
  | 100 => ⟨S5888, .i32⟩
  | 101 => ⟨S_, .f32⟩
  | 102 => ⟨S5888x1, .f32⟩
  | 103 => ⟨S_, .i32⟩
  | 104 => ⟨S4096, .i32⟩
  | 105 => ⟨S4096, .i1⟩
  | 106 => ⟨S_, .i32⟩
  | 107 => ⟨S4096, .i32⟩
  | 108 => ⟨S4096, .i32⟩
  | 109 => ⟨S4096, .i32⟩
  | 110 => ⟨S_, .i32⟩
  | 111 => ⟨S4096, .i32⟩
  | 112 => ⟨S4096, .i32⟩
  | 113 => ⟨S4096x1, .i32⟩
  | 114 => ⟨S4096x1, .i32⟩
  | 115 => ⟨S4096x2, .i32⟩
  | 116 => ⟨S5888x1, .f32⟩
  | 117 => ⟨S23, .i32⟩
  | 118 => ⟨S_, .i32⟩
  | 119 => ⟨S23, .i32⟩
  | 120 => ⟨S23, .i32⟩
  | 121 => ⟨S23x1, .i32⟩
  | 122 => ⟨S1x8, .i32⟩
  | 123 => ⟨S23x8, .i32⟩
  | 124 => ⟨S23x8, .i32⟩
  | 125 => ⟨S23x8, .i1⟩
  | 126 => ⟨S23x8, .i32⟩
  | 127 => ⟨S_, .i32⟩
  | _ => ⟨S2048x2048, .f32⟩

abbrev hbmTy0_1 (i : Nat) : BufTy := match i % 128 with
  | 0 => ⟨S23, .i32⟩
  | 1 => ⟨S_, .i32⟩
  | 2 => ⟨S23, .i32⟩
  | 3 => ⟨S1, .i32⟩
  | 4 => ⟨S_, .i32⟩
  | 5 => ⟨S23, .i32⟩
  | 6 => ⟨S23, .i1⟩
  | 7 => ⟨S_, .i32⟩
  | 8 => ⟨S5888, .i32⟩
  | 9 => ⟨S5888, .i1⟩
  | 10 => ⟨S_, .i32⟩
  | 11 => ⟨S5888, .i32⟩
  | 12 => ⟨S5888, .i32⟩
  | 13 => ⟨S5888, .i32⟩
  | 14 => ⟨S5888x1, .i32⟩
  | 15 => ⟨S5888x2048, .f32⟩
  | 16 => ⟨S5888x2048, .f32⟩
  | 17 => ⟨S2048x2, .i32⟩
  | 18 => ⟨S2048x1, .i32⟩
  | 19 => ⟨S2048, .i32⟩
  | 20 => ⟨S_, .i32⟩
  | 21 => ⟨S2048, .i32⟩
  | 22 => ⟨S2048, .i1⟩
  | 23 => ⟨S_, .i32⟩
  | 24 => ⟨S2048, .i32⟩
  | 25 => ⟨S2048, .i32⟩
  | 26 => ⟨S2048, .i32⟩
  | 27 => ⟨S2048x1, .i32⟩
  | 28 => ⟨S2048x2048, .f32⟩
  | 29 => ⟨S2048x1, .i32⟩
  | 30 => ⟨S2048, .i32⟩
  | 31 => ⟨S_, .i32⟩
  | 32 => ⟨S2048, .i32⟩
  | 33 => ⟨S2048, .i1⟩
  | 34 => ⟨S_, .i32⟩
  | 35 => ⟨S2048, .i32⟩
  | 36 => ⟨S2048, .i32⟩
  | 37 => ⟨S2048, .i32⟩
  | 38 => ⟨S2048x1, .i32⟩
  | 39 => ⟨S2048x2048, .f32⟩
  | 40 => ⟨S2048x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | .local _ .vmem, ⟨0, _⟩ => ⟨S512x2048, .f32⟩
  | .local _ .vmem, ⟨1, _⟩ => ⟨S512x2048, .f32⟩
  | .local _ .vmem, ⟨2, _⟩ => ⟨S2048x8, .f32⟩
  | .local _ .vmem, ⟨3, _⟩ => ⟨S1x8, .f32⟩
  | .local _ .vmem, ⟨4, _⟩ => ⟨S512x2, .i32⟩
  | .local _ .vmem, ⟨5, _⟩ => ⟨S512x2, .i32⟩
  | .local _ .vmem, ⟨6, _⟩ => ⟨S512x2, .f32⟩
  | .local _ .vmem, ⟨7, _⟩ => ⟨S512x2, .f32⟩
  | .local _ .vmem, ⟨8, _⟩ => ⟨S256x2048, .f32⟩
  | .local _ .vmem, ⟨9, _⟩ => ⟨S256x2048, .f32⟩
  | .local _ .vmem, ⟨10, _⟩ => ⟨S1x2048x1024, .f32⟩
  | .local _ .vmem, ⟨11, _⟩ => ⟨S1x2048x1024, .f32⟩
  | .local _ .vmem, ⟨12, _⟩ => ⟨S1x2048x1024, .f32⟩
  | .local _ .vmem, ⟨13, _⟩ => ⟨S1x2048x1024, .f32⟩
  | .local _ .vmem, ⟨14, _⟩ => ⟨S1x1024x2048, .f32⟩
  | .local _ .vmem, ⟨15, _⟩ => ⟨S1x1024x2048, .f32⟩
  | .local _ .vmem, ⟨16, _⟩ => ⟨S256x1, .f32⟩
  | .local _ .vmem, ⟨17, _⟩ => ⟨S256x1, .f32⟩
  | .local _ .vmem, ⟨18, _⟩ => ⟨S256x2048, .f32⟩
  | .local _ .vmem, ⟨19, _⟩ => ⟨S256x2048, .f32⟩
  | .local _ .smem, ⟨0, _⟩ => ⟨S23, .i32⟩
  | .local _ .smem, ⟨1, _⟩ => ⟨S23, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v17 : Ref sig .tc := ⟨.hbm, 44, rfl⟩
abbrev main_c_3 : Ref sig .tc := ⟨.hbm, 45, rfl⟩
abbrev main_v18 : Ref sig .tc := ⟨.hbm, 46, rfl⟩
abbrev main_v19 : Ref sig .tc := ⟨.hbm, 47, rfl⟩
abbrev main_call1_call0_c : Ref sig .tc := ⟨.hbm, 48, rfl⟩
abbrev main_call1_call0_v0 : Ref sig .tc := ⟨.hbm, 49, rfl⟩
abbrev main_v20 : Ref sig .tc := ⟨.hbm, 50, rfl⟩
abbrev main_v21 : Ref sig .tc := ⟨.hbm, 51, rfl⟩
abbrev main_call2_call0_c : Ref sig .tc := ⟨.hbm, 52, rfl⟩
abbrev main_call2_call0_v0 : Ref sig .tc := ⟨.hbm, 53, rfl⟩
abbrev main_v22 : Ref sig .tc := ⟨.hbm, 54, rfl⟩
abbrev main_c_4 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_5 : Ref sig .tc := ⟨.hbm, 59, rfl⟩
abbrev main_v26 : Ref sig .tc := ⟨.hbm, 60, rfl⟩
abbrev main_c_6 : Ref sig .tc := ⟨.hbm, 61, rfl⟩
abbrev main_v27 : Ref sig .tc := ⟨.hbm, 62, rfl⟩
abbrev main_v28 : Ref sig .tc := ⟨.hbm, 63, rfl⟩
abbrev main_c_7 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_c_8 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_c : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_0 : Ref sig .tc := ⟨.hbm, 86, rfl⟩
abbrev main_call3_v12 : Ref sig .tc := ⟨.hbm, 87, rfl⟩
abbrev main_call3_v13 : Ref sig .tc := ⟨.hbm, 88, rfl⟩
abbrev main_v36 : Ref sig .tc := ⟨.hbm, 89, rfl⟩
abbrev main_c_9 : Ref sig .tc := ⟨.hbm, 90, rfl⟩
abbrev main_v37 : Ref sig .tc := ⟨.hbm, 91, rfl⟩
abbrev main_c_10 : Ref sig .tc := ⟨.hbm, 92, rfl⟩
abbrev main_v38 : Ref sig .tc := ⟨.hbm, 93, rfl⟩
abbrev main_v39 : Ref sig .tc := ⟨.hbm, 94, rfl⟩
abbrev main_c_11 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_cst : Ref sig .tc := ⟨.hbm, 101, rfl⟩
abbrev main_v45 : Ref sig .tc := ⟨.hbm, 102, rfl⟩
abbrev main_c_12 : Ref sig .tc := ⟨.hbm, 103, rfl⟩
abbrev main_v46 : Ref sig .tc := ⟨.hbm, 104, rfl⟩
abbrev main_v47 : Ref sig .tc := ⟨.hbm, 105, rfl⟩
abbrev main_c_13 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_c_14 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_c_15 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_c_16 : Ref sig .tc := ⟨.hbm, 127, rfl⟩
abbrev main_v66 : Ref sig .tc := ⟨.hbm, 128, rfl⟩
abbrev main_c_17 : Ref sig .tc := ⟨.hbm, 129, rfl⟩
abbrev main_v67 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_c_18 : Ref sig .tc := ⟨.hbm, 135, rfl⟩
abbrev main_v74 : Ref sig .tc := ⟨.hbm, 136, rfl⟩
abbrev main_v75 : Ref sig .tc := ⟨.hbm, 137, rfl⟩
abbrev main_c_19 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_c_20 : Ref sig .tc := ⟨.hbm, 148, rfl⟩
abbrev main_v85 : Ref sig .tc := ⟨.hbm, 149, rfl⟩
abbrev main_v86 : Ref sig .tc := ⟨.hbm, 150, rfl⟩
abbrev main_c_21 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_c_22 : Ref sig .tc := ⟨.hbm, 159, rfl⟩
abbrev main_v94 : Ref sig .tc := ⟨.hbm, 160, rfl⟩
abbrev main_v95 : Ref sig .tc := ⟨.hbm, 161, rfl⟩
abbrev main_c_23 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v68 : Ref sig .tc := ⟨.smem, 0, rfl⟩
abbrev main_v73 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![23], ![false]⟩

abbrev pre1 : Pipeline.Prefetch sig := ⟨2, ![main_v68.idx, main_v73.idx], fun | 0 => main_v68.names | 1 => main_v73.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (i : grid1.Coords) : Fin 1 → Nat :=
  let arg0 : BitVec 32 := BitVec.ofNat 32 (i 0).val
  let v5 : Index := Scalar.indexCast arg0
  ![v5.toNat]
def k1_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def k1_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (k1_off1_inb : ∀ i : grid1.Coords, ∀ a, (k1_off1 i) a + S1.size a ≤ S23.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S23) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S23.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S23) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S23.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S23) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S2048x2048 : Shape := ⟨2, ![2048, 2048]⟩
abbrev S8x2048 : Shape := ⟨2, ![8, 2048]⟩
abbrev S8 : Shape := ⟨1, ![8]⟩
abbrev S8x2048x1024 : Shape := ⟨3, ![8, 2048, 1024]⟩
abbrev S8x1024x2048 : Shape := ⟨3, ![8, 1024, 2048]⟩
abbrev S2048x8 : Shape := ⟨2, ![2048, 8]⟩
abbrev S_ : Shape := ⟨0, ![]⟩
abbrev S1x8 : Shape := ⟨2, ![1, 8]⟩
abbrev S2048x2 : Shape := ⟨2, ![2048, 2]⟩
abbrev S2048x2x1 : Shape := ⟨3, ![2048, 2, 1]⟩
abbrev S1 : Shape := ⟨1, ![1]⟩
abbrev S1x1x1 : Shape := ⟨3, ![1, 1, 1]⟩
abbrev S2048 : Shape := ⟨1, ![2048]⟩
abbrev S2048x1 : Shape := ⟨2, ![2048, 1]⟩
abbrev S1x1x8 : Shape := ⟨3, ![1, 1, 8]⟩
abbrev S2048x2x8 : Shape := ⟨3, ![2048, 2, 8]⟩
abbrev S8x2048x2048 : Shape := ⟨3, ![8, 2048, 2048]⟩

abbrev nBuf : Space → Nat
  | .hbm => 74
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8x2048, .f32⟩
  | .hbm, ⟨2, _⟩ => ⟨S8, .f32⟩
  | .hbm, ⟨3, _⟩ => ⟨S8x2048x1024, .f32⟩
  | .hbm, ⟨4, _⟩ => ⟨S8x2048x1024, .f32⟩
  | .hbm, ⟨5, _⟩ => ⟨S8x1024x2048, .f32⟩
  | .hbm, ⟨6, _⟩ => ⟨S2048x8, .f32⟩
  | .hbm, ⟨7, _⟩ => ⟨S2048x8, .f32⟩
  | .hbm, ⟨8, _⟩ => ⟨S2048x8, .f32⟩
  | .hbm, ⟨9, _⟩ => ⟨S2048x8, .f32⟩
  | .hbm, ⟨10, _⟩ => ⟨S_, .f32⟩
  | .hbm, ⟨11, _⟩ => ⟨S2048x8, .f32⟩
  | .hbm, ⟨12, _⟩ => ⟨S2048x8, .f32⟩
  | .hbm, ⟨13, _⟩ => ⟨S_, .f32⟩
  | .hbm, ⟨14, _⟩ => ⟨S2048x8, .f32⟩
  | .hbm, ⟨15, _⟩ => ⟨S2048x8, .f32⟩
  | .hbm, ⟨16, _⟩ => ⟨S1x8, .f32⟩
  | .hbm, ⟨17, _⟩ => ⟨S2048x8, .f32⟩
  | .hbm, ⟨18, _⟩ => ⟨S2048x8, .f32⟩
  | .hbm, ⟨19, _⟩ => ⟨S2048x2, .f32⟩
  | .hbm, ⟨20, _⟩ => ⟨S2048x2, .i32⟩
  | .hbm, ⟨21, _⟩ => ⟨S_, .i32⟩
  | .hbm, ⟨22, _⟩ => ⟨S2048x2, .i32⟩
  | .hbm, ⟨23, _⟩ => ⟨S2048x2, .i1⟩
  | .hbm, ⟨24, _⟩ => ⟨S_, .i32⟩
  | .hbm, ⟨25, _⟩ => ⟨S2048x2, .i32⟩
  | .hbm, ⟨26, _⟩ => ⟨S2048x2, .i32⟩
  | .hbm, ⟨27, _⟩ => ⟨S2048x2, .i32⟩
  | .hbm, ⟨28, _⟩ => ⟨S2048x2x1, .i32⟩
  | .hbm, ⟨29, _⟩ => ⟨S1, .i32⟩
  | .hbm, ⟨30, _⟩ => ⟨S_, .i32⟩
  | .hbm, ⟨31, _⟩ => ⟨S2048x2x1, .i32⟩
  | .hbm, ⟨32, _⟩ => ⟨S2048x2x1, .i1⟩
  | .hbm, ⟨33, _⟩ => ⟨S1x1x1, .i32⟩
  | .hbm, ⟨34, _⟩ => ⟨S2048x2x1, .i32⟩
  | .hbm, ⟨35, _⟩ => ⟨S2048x2x1, .i1⟩
  | .hbm, ⟨36, _⟩ => ⟨S2048x2x1, .i1⟩
  | .hbm, ⟨37, _⟩ => ⟨S_, .i1⟩
  | .hbm, ⟨38, _⟩ => ⟨S2048x2, .i1⟩
  | .hbm, ⟨39, _⟩ => ⟨S2048x2, .f32⟩
  | .hbm, ⟨40, _⟩ => ⟨S_, .f32⟩
  | .hbm, ⟨41, _⟩ => ⟨S2048x2, .f32⟩
  | .hbm, ⟨42, _⟩ => ⟨S2048x2, .f32⟩
  | .hbm, ⟨43, _⟩ => ⟨S_, .f32⟩
  | .hbm, ⟨44, _⟩ => ⟨S2048, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x2, .f32⟩
  | .hbm, ⟨50, _⟩ => ⟨S2048x2, .f32⟩
  | .hbm, ⟨51, _⟩ => ⟨S2048x2x1, .i32⟩
  | .hbm, ⟨52, _⟩ => ⟨S1x1x8, .i32⟩
  | .hbm, ⟨53, _⟩ => ⟨S2048x2x8, .i32⟩
  | .hbm, ⟨54, _⟩ => ⟨S2048x2x8, .i32⟩
  | .hbm, ⟨55, _⟩ => ⟨S2048x2x8, .i1⟩
  | .hbm, ⟨56, _⟩ => ⟨S2048x2x8, .f32⟩
  | .hbm, ⟨57, _⟩ => ⟨S2048x8, .f32⟩
  | .hbm, ⟨58, _⟩ => ⟨S8x1024x2048, .f32⟩
  | .hbm, ⟨59, _⟩ => ⟨S8x2048x1024, .f32⟩
  | .hbm, ⟨60, _⟩ => ⟨S8x1024x2048, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S_, .f32⟩
  | .hbm, ⟨65, _⟩ => ⟨S8x2048x1024, .f32⟩
  | .hbm, ⟨66, _⟩ => ⟨S8x2048x1024, .f32⟩
  | .hbm, ⟨67, _⟩ => ⟨S_, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | .hbm, ⟨72, _⟩ => ⟨S8x2048x2048, .f32⟩
  | .hbm, ⟨73, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_values : Ref sig .tc := ⟨.hbm, 19, rfl⟩
abbrev main_indices : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v11 : Ref sig .tc := ⟨.hbm, 42, rfl⟩
abbrev main_cst_1 : Ref sig .tc := ⟨.hbm, 43, rfl⟩
abbrev main_v12 : Ref sig .tc := ⟨.hbm, 44, rfl⟩
abbrev main_v13 : Ref sig .tc := ⟨.hbm, 45, rfl⟩
abbrev main_cst_2 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_call2_v0 : Ref sig .tc := ⟨.hbm, 62, rfl⟩
abbrev main_call2_v1 : Ref sig .tc := ⟨.hbm, 63, rfl⟩
abbrev main_call2_cst : Ref sig .tc := ⟨.hbm, 64, rfl⟩
abbrev main_call2_v2 : Ref sig .tc := ⟨.hbm, 65, rfl⟩
abbrev main_call2_v3 : Ref sig .tc := ⟨.hbm, 66, rfl⟩
abbrev main_call2_cst_0 : Ref sig .tc := ⟨.hbm, 67, rfl⟩
abbrev main_call2_v4 : Ref sig .tc := ⟨.hbm, 68, rfl⟩
abbrev main_call2_v5 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩

abbrev nD : Nat := 1
abbrev τ : Topo := Topo.v7x

variable {F : FTy → Type} [FloatOps F]
-- ==== Proof.RouterRegion.lean ====
/- The router's region: what its body leaves in its blocks, at any float type. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)
open Cert.KernelIdeal.Gen

variable {F : FTy → Type} [FloatOps F]

local notation "𝕄" => MT nD τ sig Unit (Elt F) ℕ (UR sig nD τ) ℕ

/-- What the router's region finds in the unscoped buffers of each core. -/
abbrev Entry (F : FTy → Type) [FloatOps F] := Dev nD → Valuation τ sig (Elt F)

variable (V : Entry F)

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The whole of a block of tokens, -/
abbrev r0_0 : Rect S512x2048 := Rect.unit (s := S512x2048) ![0, 0] S512x2048.size inb_S512x2048_S512x2048_0_0
/-- of the router's weights, -/
abbrev r0_1 : Rect S2048x8 := Rect.unit (s := S2048x8) ![0, 0] S2048x8.size inb_S2048x8_S2048x8_0_0
/-- of the biases, -/
abbrev r0_2 : Rect S1x8 := Rect.unit (s := S1x8) ![0, 0] S1x8.size inb_S1x8_S1x8_0_0
/-- and of a block of results. -/
abbrev r0_3 : Rect S512x2 := Rect.unit (s := S512x2) ![0, 0] S512x2.size inb_S512x2_S512x2_0_0

/-- The indices the router leaves in its first output block, from the blocks it reads. -/
def out0_3 (x0 : Vec F S512x2048 .f32) (x1 : Vec F S2048x8 .f32) (x2 : Vec F S1x8 .f32) : Vec F S512x2 .i32 :=
  View.canon [⟨r0_3, k0_pay1 (k0_pay5 (View.ld x0 r0_0) (View.ld x1 r0_1) (View.ld x2 r0_2)) (k0_pay6 (View.ld x0 r0_0) (View.ld x1 r0_1) (View.ld x2 r0_2))⟩]

/-- The one store covers the block. -/
theorem cover0_3 (p0 : Vec F S512x2 .i32) (y : S512x2.Idx) :
    ∃ pc ∈ ([⟨r0_3, p0⟩] : List (View.Piece (Elt F) S512x2 .i32)), y ∈ pc.1.set :=
  View.cover_of_tiled [⟨r0_3, p0⟩] S512x2.size (by rfl) y

/-- The weights the router leaves in its second output block, from the blocks it reads. -/
def out0_4 (x0 : Vec F S512x2048 .f32) (x1 : Vec F S2048x8 .f32) (x2 : Vec F S1x8 .f32) : Vec F S512x2 .f32 :=
  View.canon [⟨r0_3, k0_pay2 (k0_pay7 (View.ld x0 r0_0) (View.ld x1 r0_1) (View.ld x2 r0_2)) (k0_pay8 (View.ld x0 r0_0) (View.ld x1 r0_1) (View.ld x2 r0_2))⟩]

/-- The one store covers the block. -/
theorem cover0_4 (p0 : Vec F S512x2 .f32) (y : S512x2.Idx) :
    ∃ pc ∈ ([⟨r0_3, p0⟩] : List (View.Piece (Elt F) S512x2 .f32)), y ∈ pc.1.set :=
  View.cover_of_tiled [⟨r0_3, p0⟩] S512x2.size (by rfl) y

set_option maxHeartbeats 1000000 in
/-- The router's body: from its three input blocks it leaves them as they were and the output blocks at `out0_3`, `out0_4`. -/
theorem sound_router (c : Dev nD) (E : Set ℕ) (i : grid0.Coords) (arg1 : Memref sig .tc .vmem S512x2048 .f32) (harg1 : arg1.IsWhole) (arg2 : Memref sig .tc .vmem S2048x8 .f32) (harg2 : arg2.IsWhole) (arg3 : Memref sig .tc .vmem S1x8 .f32) (harg3 : arg3.IsWhole) (arg4 : Memref sig .tc .vmem S512x2 .i32) (harg4 : arg4.IsWhole) (arg5 : Memref sig .tc .vmem S512x2 .f32) (harg5 : arg5.IsWhole)
    (x0 : Vec F S512x2048 .f32) (x1 : Vec F S2048x8 .f32) (x2 : Vec F S1x8 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__router_body i arg1 harg1 arg2 harg2 arg3 harg3 arg4 harg4 arg5 harg5) K := by
  simp only [cc0__router_body_eq_skeleton]; unfold cc0__router_body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-- The router region's proof data: each input's buffer keeps its block, each output's holds what the body leaves. -/
def dat0 (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => out0_3 (blk0 V c 0 t) (blk0 V c 1 t) (blk0 V c 2 t)
    | ⟨4, _⟩ => out0_4 (blk0 V c 0 t) (blk0 V c 1 t) (blk0 V c 2 t)
  Φ _ := Pipeline.ΦA spec0 c
  q _ := fullShare
  owed _ := 0

/-- The region's arrays are entered as found. -/
theorem dat0_A (c : Dev nD) (w : Fin cfg0.W) : (dat0 V c).A w = V c (Proc.devRef .tc (Pipeline.arrRef spec0 w)) := by
  dsimp only [dat0]

/-- The body leaves the block of tokens, -/
theorem after0_0 (c : Dev nD) (t : Fin cfg0.N) : (dat0 V c).after 0 t = blk0 V c 0 t := by dsimp only [dat0]
/-- the router's weights -/
theorem after0_1 (c : Dev nD) (t : Fin cfg0.N) : (dat0 V c).after 1 t = blk0 V c 1 t := by dsimp only [dat0]
/-- and the biases as they were, -/
theorem after0_2 (c : Dev nD) (t : Fin cfg0.N) : (dat0 V c).after 2 t = blk0 V c 2 t := by dsimp only [dat0]
/-- the picks at `out0_3` -/
theorem after0_3 (c : Dev nD) (t : Fin cfg0.N) : (dat0 V c).after 3 t = out0_3 (blk0 V c 0 t) (blk0 V c 1 t) (blk0 V c 2 t) := by dsimp only [dat0]
/-- and the weights at `out0_4`. -/
theorem after0_4 (c : Dev nD) (t : Fin cfg0.N) : (dat0 V c).after 4 t = out0_4 (blk0 V c 0 t) (blk0 V c 1 t) (blk0 V c 2 t) := by dsimp only [dat0]

/-- Each input's staging buffer holds its block at every point. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [dat0_A]; try rfl) t d).trans
    (by unfold Dat.fetched Dat.blockOf blk0; rw [dat0_A]; try rfl)
/-- So does that of the router's weights, -/
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [dat0_A]; try rfl) t d).trans
    (by unfold Dat.fetched Dat.blockOf blk0; rw [dat0_A]; try rfl)
/-- and that of the biases. -/
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [dat0_A]; try rfl) t d).trans
    (by unfold Dat.fetched Dat.blockOf blk0; rw [dat0_A]; try rfl)

/-- The router's body at any point of its grid, from the staging buffers as the pipeline hands them over to the buffers as
    the proof data describe them. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)
        ∗ owns (c : Thread nD τ) (st0_3 t) fullShare ((dat0 V c).after 3 t)
        ∗ owns (c : Thread nD τ) (st0_4 t) fullShare ((dat0 V c).after 4 t))) := by
  unfold bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_router c Set.univ (grid0.coords t) _ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row of the router at point `t`'s slots. -/
theorem defs₀_row0 (t : Fin cfg0.N) :
    defs₀ (F := F) .tc cfg0.body (cfg0.bodyArgs t (cfg0.slots t)) = bodyAt0 t := by
  unfold defs₀; rw [Defs.onTc_tc]

/-- What the pipeline asks of the router's body, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.TileRegion.lean ====
/- The tile computation's region: what its body leaves in its blocks, at any float type. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import proofs.«01_k».proof.Proof.RouterRegion

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)
open Cert.KernelIdeal.Gen

variable {F : FTy → Type} [FloatOps F]

local notation "𝕄" => MT nD τ sig Unit (Elt F) ℕ (UR sig nD τ) ℕ

/-- The contents of the two prefetched tables, in range. -/
abbrev Tables (F : FTy → Type) [FloatOps F] := (pcfg1 (F := F)).Adm

/-- The whole of a block of rows, -/
abbrev r1_x : Rect S256x2048 := Rect.unit (s := S256x2048) ![0, 0] S256x2048.size inb_S256x2048_S256x2048_0_0
/-- of a matrix of the two first products, -/
abbrev r1_g : Rect S1x2048x1024 := Rect.unit (s := S1x2048x1024) ![0, 0, 0] S1x2048x1024.size inb_S1x2048x1024_S1x2048x1024_0_0_0
/-- of a matrix of the last, -/
abbrev r1_d : Rect S1x1024x2048 := Rect.unit (s := S1x1024x2048) ![0, 0, 0] S1x1024x2048.size inb_S1x1024x2048_S1x1024x2048_0_0_0
/-- and of a block of weights. -/
abbrev r1_w : Rect S256x1 := Rect.unit (s := S256x1) ![0, 0] S256x1.size inb_S256x1_S256x1_0_0

/-- The word of the second table that the body reads at grid point `i`. -/
def word1 (g : (BufTy.mk S23 .i32).Contents (Elt F)) (i : grid1.Coords) : BitVec 32 :=
  g ((Rect.unit (s := S23) (k1_off1 i) S1.size (k1_off1_inb i)).idx (Shape.Idx.first (numel1_S1.symm ▸ Nat.one_pos)))

/-- What the body leaves in the output block: the product where the tile's word is not zero, zeros where it is. -/
def out1 (w : BitVec 32) (x0 : Vec F S256x2048 .f32) (x1 x2 : Vec F S1x2048x1024 .f32) (x3 : Vec F S1x1024x2048 .f32) (x4 : Vec F S256x1 .f32) :
    Vec F S256x2048 .f32 :=
  if k1_cond1 w = 1#1 then
    View.canon [⟨r1_x, k1_pay1 (View.ld x0 r1_x) (View.ld x1 r1_g) (View.ld x2 r1_g) (View.ld x4 r1_w) (View.ld x3 r1_d)⟩]
  else View.canon [⟨r1_x, k1_pay2 (F := F)⟩]

/-- The one store covers the block. -/
theorem cover1 (p0 : Vec F S256x2048 .f32) (y : S256x2048.Idx) :
    ∃ pc ∈ ([⟨r1_x, p0⟩] : List (View.Piece (Elt F) S256x2048 .f32)), y ∈ pc.1.set :=
  View.cover_of_tiled [⟨r1_x, p0⟩] S256x2048.size (by rfl) y

/-- The two conditions of the body are each other's negation. -/
theorem cond1_iff (w : BitVec 32) : k1_cond1 w = 1#1 ↔ ¬ k1_cond2 w = 1#1 := by
  unfold k1_cond1 k1_cond2
  by_cases h : w = 0#32
  · subst h; decide
  · have e : (w == 0#32) = false := by simpa using h
    simp only [Scalar.cmpi, Scalar.extui, IntOp.cmpi, bne, e]
    decide

set_option maxHeartbeats 2000000 in
/-- The tile computation's body: the five input blocks and the table stay, the output block is left at `out1`. -/
theorem sound_gmm (c : Dev nD) (E : Set ℕ) (i : grid1.Coords) (arg1 : Memref sig .tc .smem S23 .i32) (harg1 : arg1.IsWhole)
    (harg2 : (Memref.whole (sig := sig) main_v73).IsWhole)
    (arg3 : Memref sig .tc .vmem S256x2048 .f32) (harg3 : arg3.IsWhole) (arg4 : Memref sig .tc .vmem S1x2048x1024 .f32) (harg4 : arg4.IsWhole)
    (arg5 : Memref sig .tc .vmem S1x2048x1024 .f32) (harg5 : arg5.IsWhole) (arg6 : Memref sig .tc .vmem S1x1024x2048 .f32) (harg6 : arg6.IsWhole)
    (arg7 : Memref sig .tc .vmem S256x1 .f32) (harg7 : arg7.IsWhole) (arg8 : Memref sig .tc .vmem S256x2048 .f32) (harg8 : arg8.IsWhole)
    (g : (BufTy.mk S23 .i32).Contents (Elt F))
    (x0 : Vec F S256x2048 .f32) (x1 x2 : Vec F S1x2048x1024 .f32) (x3 : Vec F S1x1024x2048 .f32) (x4 : Vec F S256x1 .f32) (K : PUnit → sProp 𝕄) :
    iprop((((c : Thread nD τ).loc main_v73) ↦{fullShare} g)
        ∗ owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop((((c : Thread nD τ).loc main_v73) ↦{fullShare} g)
            ∗ owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (out1 (word1 (F := F) g i) x0 x1 x2 x3 x4)) -∗ K ⟨⟩))
      ⊢ wp frame (wpE (defs₀ (F := F)) Variants.none c none) E
          (cc1__gmm_body i arg1 harg1 (Memref.whole main_v73) harg2 arg3 harg3 arg4 harg4 arg5 harg5 arg6 harg6 arg7 harg7 arg8 harg8) K := by
  simp only [cc1__gmm_body_eq_skeleton]; unfold cc1__gmm_body_skel
  unfold owns
  iintro ⟨Ht, ⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  have off2 : k1_off2 i = k1_off1 i := by rw [k1_off1_eq, k1_off2_eq]
  by_cases hw : k1_cond1 (word1 (F := F) g i) = 1#1
  · have hw2 : ¬ k1_cond2 (word1 (F := F) g i) = 1#1 := (cond1_iff _).1 hw
    have h1 : k1_cond1 (View.readAt (Elt F) (Memref.whole main_v73).view (Rect.unit (s := S23) (k1_off1 i) S1.size (k1_off1_inb i)).toLoadRect g
        (Shape.Idx.first (numel1_S1.symm ▸ Nat.one_pos))) = 1#1 := hw
    have h2 : ¬ k1_cond2 (View.readAt (Elt F) (Memref.whole main_v73).view (Rect.unit (s := S23) (k1_off2 i) S1.size (k1_off2_inb i)).toLoadRect g
        (Shape.Idx.first (numel1_S1.symm ▸ Nat.one_pos))) = 1#1 := hw2
    sl_exec (disch := first | exact h1 | exact h2)
    sl_step
    sl_exec (disch := first | exact h1 | exact h2)
    sl_step
    iapply Hk
    isplitl [Ht]; · iexact Ht
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    rw [out1, if_pos hw]
    exact View.read_writes_eq_canon _ _ _ (cover1 _)
  · have hw2 : k1_cond2 (word1 (F := F) g i) = 1#1 := not_not.1 fun h => hw ((cond1_iff _).2 h)
    have h1 : ¬ k1_cond1 (View.readAt (Elt F) (Memref.whole main_v73).view (Rect.unit (s := S23) (k1_off1 i) S1.size (k1_off1_inb i)).toLoadRect g
        (Shape.Idx.first (numel1_S1.symm ▸ Nat.one_pos))) = 1#1 := hw
    have h2 : k1_cond2 (View.readAt (Elt F) (Memref.whole main_v73).view (Rect.unit (s := S23) (k1_off2 i) S1.size (k1_off2_inb i)).toLoadRect g
        (Shape.Idx.first (numel1_S1.symm ▸ Nat.one_pos))) = 1#1 := hw2
    sl_exec (disch := first | exact h1 | exact h2)
    sl_step
    sl_exec (disch := first | exact h1 | exact h2)
    sl_step
    iapply Hk
    isplitl [Ht]; · iexact Ht
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    rw [out1, if_neg hw]
    exact View.read_writes_eq_canon _ _ _ (cover1 _)

/-! ## The region's proof data -/

variable (a : Tables F) (V : Entry F)

/-- Window `w`'s block at point `t`, read off its array as the region finds it, its place read off the tables `a`. -/
def blk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Proc.devRef .tc (Pipeline.arrRef spec1 w)))

/-- The tile region's proof data: each input's buffer keeps its block, the output's holds what the body leaves; beside
    the scoped rest and the generator register the invariant holds the two tables. -/
def dat1 (c : Dev nD) : Dat τ (Elt F) Unit ℕ (UR sig nD τ) ℕ (cfg1 a) c where
  A w := V c (Proc.devRef .tc (Pipeline.arrRef spec1 w))
  after w t := match w with
    | ⟨0, _⟩ => blk1 a V c 0 t
    | ⟨1, _⟩ => blk1 a V c 1 t
    | ⟨2, _⟩ => blk1 a V c 2 t
    | ⟨3, _⟩ => blk1 a V c 3 t
    | ⟨4, _⟩ => blk1 a V c 4 t
    | ⟨5, _⟩ => out1 (word1 (F := F) (a.1 1) (grid1.coords t)) (blk1 a V c 0 t) (blk1 a V c 1 t) (blk1 a V c 2 t) (blk1 a V c 3 t) (blk1 a V c 4 t)
  Φ _ := iprop(iprop(Pipeline.scopedRest spec1 c ∗ ∃ r, prngReg c r) ∗ Pipeline.prefHeld pre1 c (fun _ => fullShare) a.1)
  q _ := fullShare
  owed _ := 0

/-- The region's arrays are entered as found. -/
theorem dat1_A (c : Dev nD) (w : Fin (cfg1 a).W) : (dat1 a V c).A w = V c (Proc.devRef .tc (Pipeline.arrRef spec1 w)) := by
  dsimp only [dat1]

/-- The body leaves the block of tokens, -/
theorem after1_0 (c : Dev nD) (t : Fin (cfg1 a).N) : (dat1 a V c).after 0 t = blk1 a V c 0 t := by dsimp only [dat1]; rfl
/-- the gate matrix, -/
theorem after1_1 (c : Dev nD) (t : Fin (cfg1 a).N) : (dat1 a V c).after 1 t = blk1 a V c 1 t := by dsimp only [dat1]; rfl
/-- the second matrix, -/
theorem after1_2 (c : Dev nD) (t : Fin (cfg1 a).N) : (dat1 a V c).after 2 t = blk1 a V c 2 t := by dsimp only [dat1]; rfl
/-- the matrix of the last product -/
theorem after1_3 (c : Dev nD) (t : Fin (cfg1 a).N) : (dat1 a V c).after 3 t = blk1 a V c 3 t := by dsimp only [dat1]; rfl
/-- and the weights as they were, -/
theorem after1_4 (c : Dev nD) (t : Fin (cfg1 a).N) : (dat1 a V c).after 4 t = blk1 a V c 4 t := by dsimp only [dat1]; rfl
/-- and the block of the result at `out1`. -/
theorem after1_5 (c : Dev nD) (t : Fin (cfg1 a).N) : (dat1 a V c).after 5 t = out1 (word1 (F := F) (a.1 1) (grid1.coords t)) (blk1 a V c 0 t) (blk1 a V c 1 t) (blk1 a V c 2 t) (blk1 a V c 3 t) (blk1 a V c 4 t) := by dsimp only [dat1]; rfl

/-- Each input's staging buffer holds its block at every point. -/
theorem before1_0 (c : Dev nD) (t : Fin (cfg1 a).N) (d) : (dat1 a V c).before 0 t d = blk1 a V c 0 t :=
  ((dat1 a V c).before_in_eq_fetched 0 rfl (fun _ => rfl) (fun _ _ _ => rfl)
    (fun t => by rw [after1_0]; unfold Dat.blockOf blk1; rw [dat1_A]; try rfl) t d).trans
    (by unfold Dat.fetched Dat.blockOf blk1; rw [dat1_A]; try rfl)
/-- So does that of the gate matrix, -/
theorem before1_1 (c : Dev nD) (t : Fin (cfg1 a).N) (d) : (dat1 a V c).before 1 t d = blk1 a V c 1 t :=
  ((dat1 a V c).before_in_eq_fetched 1 rfl (fun _ => rfl) (fun _ _ _ => rfl)
    (fun t => by rw [after1_1]; unfold Dat.blockOf blk1; rw [dat1_A]; try rfl) t d).trans
    (by unfold Dat.fetched Dat.blockOf blk1; rw [dat1_A]; try rfl)
/-- that of the second matrix, -/
theorem before1_2 (c : Dev nD) (t : Fin (cfg1 a).N) (d) : (dat1 a V c).before 2 t d = blk1 a V c 2 t :=
  ((dat1 a V c).before_in_eq_fetched 2 rfl (fun _ => rfl) (fun _ _ _ => rfl)
    (fun t => by rw [after1_2]; unfold Dat.blockOf blk1; rw [dat1_A]; try rfl) t d).trans
    (by unfold Dat.fetched Dat.blockOf blk1; rw [dat1_A]; try rfl)
/-- that of the last -/
theorem before1_3 (c : Dev nD) (t : Fin (cfg1 a).N) (d) : (dat1 a V c).before 3 t d = blk1 a V c 3 t :=
  ((dat1 a V c).before_in_eq_fetched 3 rfl (fun _ => rfl) (fun _ _ _ => rfl)
    (fun t => by rw [after1_3]; unfold Dat.blockOf blk1; rw [dat1_A]; try rfl) t d).trans
    (by unfold Dat.fetched Dat.blockOf blk1; rw [dat1_A]; try rfl)
/-- and that of the weights. -/
theorem before1_4 (c : Dev nD) (t : Fin (cfg1 a).N) (d) : (dat1 a V c).before 4 t d = blk1 a V c 4 t :=
  ((dat1 a V c).before_in_eq_fetched 4 rfl (fun _ => rfl) (fun _ _ _ => rfl)
    (fun t => by rw [after1_4]; unfold Dat.blockOf blk1; rw [dat1_A]; try rfl) t d).trans
    (by unfold Dat.fetched Dat.blockOf blk1; rw [dat1_A]; try rfl)

/-- The staging buffer of window 0 at a tile's slots, -/
abbrev st1_0 (t : Fin (cfg1 a).N) := ((cfg1 a).win 0).stage ((cfg1 a).slots t 0)
/-- of window 1, -/
abbrev st1_1 (t : Fin (cfg1 a).N) := ((cfg1 a).win 1).stage ((cfg1 a).slots t 1)
/-- of window 2, -/
abbrev st1_2 (t : Fin (cfg1 a).N) := ((cfg1 a).win 2).stage ((cfg1 a).slots t 2)
/-- of window 3, -/
abbrev st1_3 (t : Fin (cfg1 a).N) := ((cfg1 a).win 3).stage ((cfg1 a).slots t 3)
/-- of window 4 -/
abbrev st1_4 (t : Fin (cfg1 a).N) := ((cfg1 a).win 4).stage ((cfg1 a).slots t 4)
/-- and of window 5. -/
abbrev st1_5 (t : Fin (cfg1 a).N) := ((cfg1 a).win 5).stage ((cfg1 a).slots t 5)

/-- The two tables held are their two buffers held. -/
theorem prefHeld1 (c : Dev nD) : (Pipeline.prefHeld pre1 c (fun _ => fullShare) a.1 : sProp 𝕄)
    = iprop((((c : Thread nD τ).loc main_v68) ↦{fullShare} (a.1 0)) ∗ (((c : Thread nD τ).loc main_v73) ↦{fullShare} (a.1 1))) :=
  bigSep_univ_eq_bigSepL [(0 : Fin 2), (1 : Fin 2)] (by decide) (by decide) _

/-- The body writes its output at every point: one of its two conditions always holds. -/
theorem idle1_5 (i : grid1.Coords) : (cfg1 a).idle 5 i = false := by
  show idle1 a.1 5 i = false
  have off2 : k1_off2 i = k1_off1 i := by rw [k1_off1_eq, k1_off2_eq]
  have h := cond1_iff (a.1.atD 1 (k1_off1 i))
  show (!(k1_cond1 (a.1.atD 1 (k1_off1 i)) == 1#1) && !(k1_cond2 (a.1.atD 1 (k1_off2 i)) == 1#1)) = false
  rw [off2]
  by_cases h1 : k1_cond1 (a.1.atD 1 (k1_off1 i)) = 1#1
  · simp [h1]
  · have h2 : k1_cond2 (a.1.atD 1 (k1_off1 i)) = 1#1 := not_not.1 fun h' => h1 (h.2 h')
    simp [h2]

/-- The body as the pipeline calls it at point `t`. -/
abbrev bodyAt1 (t : Fin (cfg1 a).N) : Prog (TpuEff nD τ sig (Elt F) Λ₀ .tc) PUnit :=
  cc1__gmm_body (grid1.coords t) (Memref.whole main_v68) (Memref.isWhole_whole _) (Memref.whole main_v73) (Memref.isWhole_whole _)
    (st1_0 a t) (stage_whole1 0 _) (st1_1 a t) (stage_whole1 1 _) (st1_2 a t) (stage_whole1 2 _)
    (st1_3 a t) (stage_whole1 3 _) (st1_4 a t) (stage_whole1 4 _) (st1_5 a t) (stage_whole1 5 _)

/-- The body table's row of the tile computation at point `t`'s slots. -/
theorem defs₀_row1 (t : Fin (cfg1 a).N) :
    defs₀ (F := F) .tc (cfg1 a).body ((cfg1 a).bodyArgs t ((cfg1 a).slots t)) = bodyAt1 a t := by
  unfold defs₀; rw [Defs.onTc_tc]; rfl

/-- The tile computation's body at any point of its grid. -/
theorem sound_body1 (c : Dev nD) (t : Fin (cfg1 a).N) :
    iprop((dat1 a V c).Φ t.castSucc ∗ (dat1 a V c).owesAt () t.castSucc
      ∗ (∃ d, owns (c : Thread nD τ) (st1_0 a t) fullShare ((dat1 a V c).before 0 t d))
      ∗ (∃ d, owns (c : Thread nD τ) (st1_1 a t) fullShare ((dat1 a V c).before 1 t d))
      ∗ (∃ d, owns (c : Thread nD τ) (st1_2 a t) fullShare ((dat1 a V c).before 2 t d))
      ∗ (∃ d, owns (c : Thread nD τ) (st1_3 a t) fullShare ((dat1 a V c).before 3 t d))
      ∗ (∃ d, owns (c : Thread nD τ) (st1_4 a t) fullShare ((dat1 a V c).before 4 t d))
      ∗ (∃ d, owns (c : Thread nD τ) (st1_5 a t) fullShare ((dat1 a V c).before 5 t d)))
    ⊢ wp frame (wpE (defs₀ (F := F)) Variants.none c none) Set.univ (bodyAt1 a t) (fun _ =>
      iprop((dat1 a V c).Φ t.succ ∗ (dat1 a V c).owesAt () t.succ
        ∗ owns (c : Thread nD τ) (st1_0 a t) fullShare ((dat1 a V c).after 0 t)
        ∗ owns (c : Thread nD τ) (st1_1 a t) fullShare ((dat1 a V c).after 1 t)
        ∗ owns (c : Thread nD τ) (st1_2 a t) fullShare ((dat1 a V c).after 2 t)
        ∗ owns (c : Thread nD τ) (st1_3 a t) fullShare ((dat1 a V c).after 3 t)
        ∗ owns (c : Thread nD τ) (st1_4 a t) fullShare ((dat1 a V c).after 4 t)
        ∗ owns (c : Thread nD τ) (st1_5 a t) fullShare ((dat1 a V c).after 5 t))) := by
  unfold bodyAt1
  simp only [before1_0, before1_1, before1_2, before1_3, before1_4]
  rw [show (dat1 a V c).Φ t.succ = (dat1 a V c).Φ t.castSucc from rfl,
    show (dat1 a V c).owesAt () t.succ = (dat1 a V c).owesAt () t.castSucc from rfl,
    after1_0, after1_1, after1_2, after1_3, after1_4, after1_5,
    show (dat1 a V c).Φ t.castSucc = iprop(iprop(Pipeline.scopedRest spec1 c ∗ ∃ r, prngReg c r) ∗ Pipeline.prefHeld pre1 c (fun _ => fullShare) a.1) from rfl,
    prefHeld1]
  iintro ⟨⟨HΦ, HT0, HT1⟩, Ho, ⟨%d0, H0⟩, ⟨%d1, H1⟩, ⟨%d2, H2⟩, ⟨%d3, H3⟩, ⟨%d4, H4⟩, ⟨%d5, H5⟩⟩
  iapply (sound_gmm c Set.univ (grid1.coords t) _ _ _ _ _ _ _ _ _ _ _ _ _ _ _ (a.1 1) (blk1 a V c 0 t) (blk1 a V c 1 t) (blk1 a V c 2 t) (blk1 a V c 3 t) (blk1 a V c 4 t) _)
  isplitl [HT1]; · iexact HT1
  isplitl [H0]; · iexact H0
  isplitl [H1]; · iexact H1
  isplitl [H2]; · iexact H2
  isplitl [H3]; · iexact H3
  isplitl [H4]; · iexact H4
  isplitl [H5]; · iexists _; iexact H5
  iintro ⟨HT1, H0, H1, H2, H3, H4, H5⟩
  isplitl [HΦ HT0 HT1]
  · isplitl [HΦ]; · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- What the pipeline asks of the tile computation's body, at every point. -/
theorem body_obligation1 (c : Dev nD) : BodyObligation (dat1 (F := F) a V c) (defs₀ (F := F)) Variants.none () Set.univ := fun t => by
  rw [bigSep_W1, bigSep_W1, defs₀_row1]
  rw [idle1_5]
  exact triple_restated (sound_body1 a V c t) rfl .rfl fun _ => .rfl

end Cert.KernelIdeal.Hand

end
-- ==== Proof.Host.lean ====
/- The host operations between and after the two regions, as functions of the chosen experts and their weights. -/
module

public import proofs.«01_k».proof.Proof.Gen.KernelIdeal.Regions
public import Idealize.ShloMosaic.Lib.StableHlo.RunRead
public import Idealize.ShloMosaic.Lib.Routing.Ops
public import Idealize.ShloMosaic.Lib.Routing.OpsSet
public import Idealize.ShloMosaic.Lib.Routing.OpsPair

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)
open Cert.KernelIdeal.Gen

variable {F : FTy → Type} [FloatOps F]

local notation "𝕄" => MT nD τ sig Unit (Elt F) ℕ (UR sig nD τ) ℕ

/-! ## The routing's integers, stage by stage -/

/-- The chosen experts of every token, one after the other. -/
def flat (idx : IVec S2048x2 32) : IVec S4096 32 := shapeCast S4096 idx shapeCasts_S2048x2_S4096
/-- A one where an assignment's expert is the column's. -/
def hot (e : IVec S4096 32) : IVec S4096x8 32 :=
  extui 32 (cmpi .eq (broadcastInDim S4096x8 ![0, 1] bcast_S4096x1_S4096x8_0_1 (broadcastInDim S4096x1 ![0] bcast_S4096_S4096x1_0 e))
    (broadcastInDim S4096x8 ![0, 1] bcast_S1x8_S4096x8_0_1 (broadcastInDim S1x8 ![1] bcast_S8_S1x8_1 (iotaInDim S8 32 0)))) natLt_1_32
/-- How many assignments each expert has. -/
def counts (h : IVec S4096x8 32) : IVec S8 32 := Host.reduce IntOp.addi h (constantI S_ 32 0#32) reducesTo_S4096x8_S8_d0 h_S_
/-- The floor of the quotients of a vector by one word. -/
def floorDiv {s : Shape} (hb : S_.BroadcastsInDim s ![]) (x : IVec s 32) (d : IVec S_ 32) : IVec s 32 :=
  select (andi (cmpi .ne (signi x) (broadcastInDim s ![] hb (signi d))) (cmpi .ne (Host.remsi x (broadcastInDim s ![] hb d)) (broadcastInDim s ![] hb (constantI S_ 32 0#32))))
    (subi (Host.divsi x (broadcastInDim s ![] hb d)) (broadcastInDim s ![] hb (constantI S_ 32 1#32))) (Host.divsi x (broadcastInDim s ![] hb d))
/-- The counts rounded up to whole tiles. -/
def padded (c : IVec S8 32) : IVec S8 32 :=
  muli (floorDiv bcast_S_S8 (subi (addi c (broadcastInDim S8 ![] bcast_S_S8 (constantI S_ 32 256#32))) (broadcastInDim S8 ![] bcast_S_S8 (constantI S_ 32 1#32))) (constantI S_ 32 256#32))
    (broadcastInDim S8 ![] bcast_S_S8 (constantI S_ 32 256#32))
/-- The running sums of the padded counts. -/
def ends (p : IVec S8 32) : IVec S8 32 :=
  Host.reduceWindow IntOp.addi ![8] ![1] ![7] ![0] p (broadcastInDim S_ ![] bcast_S_S_ (constantI S_ 32 0#32)) reduceWindows_S8_S8_w8s1p7_0 h_S_
/-- The running counts of every expert down the assignments. -/
def running (h : IVec S4096x8 32) : IVec S4096x8 32 :=
  Host.reduceWindow IntOp.addi ![4096, 1] ![1, 1] ![4095, 0] ![0, 0] h (broadcastInDim S_ ![] bcast_S_S_ (constantI S_ 32 0#32)) reduceWindows_S4096x8_S4096x8_w4096s1p4095_0_w1s1p0_0 h_S_
/-- Each assignment's rank among those of its expert, from the running counts. -/
def ranksAt (r h : IVec S4096x8 32) : IVec S4096 32 :=
  Host.reduce IntOp.addi (muli (subi r (broadcastInDim S4096x8 ![] bcast_S_S4096x8 (constantI S_ 32 1#32))) h) (constantI S_ 32 0#32) reducesTo_S4096x8_S4096_d1 h_S_
/-- Each assignment's rank among those of its expert. -/
def ranks (h : IVec S4096x8 32) : IVec S4096 32 := ranksAt (running h) h
/-- An index counted from the end where it is negative. -/
def wrapped {s : Shape} (hb : S_.BroadcastsInDim s ![]) (n : BitVec 32) (x : IVec s 32) : IVec s 32 :=
  select (cmpi .slt x (broadcastInDim s ![] hb (constantI S_ 32 0#32))) (addi x (broadcastInDim s ![] hb (constantI S_ 32 n))) x
/-- The row of the sorted array each assignment takes. -/
def slots (st : IVec S8 32) (e rk : IVec S4096 32) : IVec S4096 32 :=
  addi (Host.gather gather_S8_S4096x1_S4096_n_0_n_n_0_1_1 st (broadcastInDim S4096x1 ![0] bcast_S4096_S4096x1_0 (wrapped bcast_S_S4096 8#32 e))) rk
/-- The token of each row, from the token of each assignment. -/
def tokensAt (sl t : IVec S4096 32) : IVec S5888 32 :=
  Host.scatter scatter_S5888_S4096x1_S4096_n_0_0_1 (fun _ b => b) (broadcastInDim S5888 ![] bcast_S_S5888 (constantI S_ 32 0#32))
    (broadcastInDim S4096x1 ![0] bcast_S4096_S4096x1_0 (wrapped bcast_S_S4096 5888#32 sl)) t
/-- The token of each row: assignment `n` is token `n / 2`'s. -/
def tokens (sl : IVec S4096 32) : IVec S5888 32 := tokensAt sl (floorDiv bcast_S_S4096 (iotaInDim S4096 32 0) (constantI S_ 32 2#32))
/-- The weight of each row, from the weight of each assignment. -/
def rowWeightsAt (sl : IVec S4096 32) (w : FVec F S4096 .f32) : FVec F S5888x1 .f32 :=
  Host.scatter scatter_S5888x1_S4096x2_S4096_n_01_01_1 (fun _ b => b) (broadcastInDim S5888x1 ![] bcast_S_S5888x1 (constant S_ .f32 0x00000000#32))
    (concatenate S4096x2 1 [⟨S4096x1, broadcastInDim S4096x1 ![0] bcast_S4096_S4096x1_0 (wrapped bcast_S_S4096 5888#32 sl)⟩,
      ⟨S4096x1, broadcastInDim S4096x1 ![0] bcast_S4096_S4096x1_0 (broadcastInDim S4096 ![] bcast_S_S4096 (constantI S_ 32 0#32))⟩] concatenates_S4096x1_S4096x1_S4096x2_d1) w
/-- The weight of each row, from the weights of every token. -/
def rowWeights (sl : IVec S4096 32) (w : FVec F S2048x2 .f32) : FVec F S5888x1 .f32 := rowWeightsAt sl (shapeCast S4096 w shapeCasts_S2048x2_S4096)
/-- The first row of each tile. -/
def bases : IVec S23 32 := muli (iotaInDim S23 32 0) (broadcastInDim S23 ![] bcast_S_S23 (constantI S_ 32 256#32))
/-- The expert of each tile. -/
def tileExpert (cum : IVec S8 32) : IVec S23 32 :=
  minsi (Host.reduce IntOp.addi (extui 32 (cmpi .sge (broadcastInDim S23x8 ![0, 1] bcast_S23x1_S23x8_0_1 (broadcastInDim S23x1 ![0] bcast_S23_S23x1_0 bases))
    (broadcastInDim S23x8 ![0, 1] bcast_S1x8_S23x8_0_1 (broadcastInDim S1x8 ![1] bcast_S8_S1x8_1 cum))) natLt_1_32) (constantI S_ 32 0#32) reducesTo_S23x8_S23_d1 h_S_)
    (broadcastInDim S23 ![] bcast_S_S23 (constantI S_ 32 7#32))
/-- Whether a tile holds any row. -/
def tileActive (cum : IVec S8 32) : IVec S23 32 :=
  extui 32 (cmpi .slt bases (broadcastInDim S23 ![] bcast_S_S23 (shapeCast S_ (extractStridedSlice S1 ![7] cum slices_S8_S1_7) shapeCasts_S1_S_))) natLt_1_32
/-- The rows of the sorted array, gathered. -/
def sortedRows (x : FVec F S2048x2048 .f32) (tok : IVec S5888 32) : FVec F S5888x2048 .f32 :=
  Host.gather gather_S2048x2048_S5888x1_S5888x2048_1_0_n_n_0_1_12048 x (broadcastInDim S5888x1 ![0] bcast_S5888_S5888x1_0 (wrapped bcast_S_S5888 2048#32 tok))
/-- One result row per token of a column of rows. -/
def takeRows (y : FVec F S5888x2048 .f32) (p : IVec S2048 32) : FVec F S2048x2048 .f32 :=
  Host.gather gather_S5888x2048_S2048x1_S2048x2048_1_0_n_n_0_1_12048 y (broadcastInDim S2048x1 ![0] bcast_S2048_S2048x1_0 (wrapped bcast_S_S2048 5888#32 p))

/-! ## The same from the chosen experts -/

/-- The running sums of the padded counts. -/
def endsOf (idx : IVec S2048x2 32) : IVec S8 32 := ends (padded (counts (hot (flat idx))))
/-- The row each assignment takes. -/
def slotsOf (idx : IVec S2048x2 32) : IVec S4096 32 :=
  slots (subi (endsOf idx) (padded (counts (hot (flat idx))))) (flat idx) (ranks (hot (flat idx)))

/-! ## What the host operations leave -/

variable (W : Valuation τ sig (Elt F))

/-- The contents after every host operation between the two regions. -/
def routed : Valuation τ sig (Elt F) :=
  StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 W))))))))

/-- Stretch 0 leaves this buffer alone. -/
theorem keep0 : StableHlo.after (hostOps1 : List (HloOp τ sig (Elt F))) W (no_index (Proc.devRef .tc main_arg0)) = W (Proc.devRef .tc main_arg0) := by after_reads_simp
/-- Stretch 1 leaves these buffers alone. -/
theorem keep1 : StableHlo.after (hostOps1_1 : List (HloOp τ sig (Elt F))) W (no_index (Proc.devRef .tc main_v3)) = W (Proc.devRef .tc main_v3) ∧ StableHlo.after (hostOps1_1 : List (HloOp τ sig (Elt F))) W (no_index (Proc.devRef .tc main_v4)) = W (Proc.devRef .tc main_v4) ∧ StableHlo.after (hostOps1_1 : List (HloOp τ sig (Elt F))) W (no_index (Proc.devRef .tc main_v11)) = W (Proc.devRef .tc main_v11) ∧ StableHlo.after (hostOps1_1 : List (HloOp τ sig (Elt F))) W (no_index (Proc.devRef .tc main_arg0)) = W (Proc.devRef .tc main_arg0) := by
  refine ⟨?_, ?_, ?_, ?_⟩ <;> after_reads_simp
/-- Stretch 2 leaves these buffers alone. -/
theorem keep2 : StableHlo.after (hostOps1_2 : List (HloOp τ sig (Elt F))) W (no_index (Proc.devRef .tc main_v3)) = W (Proc.devRef .tc main_v3) ∧ StableHlo.after (hostOps1_2 : List (HloOp τ sig (Elt F))) W (no_index (Proc.devRef .tc main_v4)) = W (Proc.devRef .tc main_v4) ∧ StableHlo.after (hostOps1_2 : List (HloOp τ sig (Elt F))) W (no_index (Proc.devRef .tc main_v11)) = W (Proc.devRef .tc main_v11) ∧ StableHlo.after (hostOps1_2 : List (HloOp τ sig (Elt F))) W (no_index (Proc.devRef .tc main_arg0)) = W (Proc.devRef .tc main_arg0) := by
  refine ⟨?_, ?_, ?_, ?_⟩ <;> after_reads_simp
/-- Stretch 3 leaves these buffers alone. -/
theorem keep3 : StableHlo.after (hostOps1_3 : List (HloOp τ sig (Elt F))) W (no_index (Proc.devRef .tc main_v3)) = W (Proc.devRef .tc main_v3) ∧ StableHlo.after (hostOps1_3 : List (HloOp τ sig (Elt F))) W (no_index (Proc.devRef .tc main_v4)) = W (Proc.devRef .tc main_v4) ∧ StableHlo.after (hostOps1_3 : List (HloOp τ sig (Elt F))) W (no_index (Proc.devRef .tc main_v11)) = W (Proc.devRef .tc main_v11) ∧ StableHlo.after (hostOps1_3 : List (HloOp τ sig (Elt F))) W (no_index (Proc.devRef .tc main_v19)) = W (Proc.devRef .tc main_v19) ∧ StableHlo.after (hostOps1_3 : List (HloOp τ sig (Elt F))) W (no_index (Proc.devRef .tc main_arg0)) = W (Proc.devRef .tc main_arg0) := by
  refine ⟨?_, ?_, ?_, ?_, ?_⟩ <;> after_reads_simp
/-- Stretch 4 leaves these buffers alone. -/
theorem keep4 : StableHlo.after (hostOps1_4 : List (HloOp τ sig (Elt F))) W (no_index (Proc.devRef .tc main_v3)) = W (Proc.devRef .tc main_v3) ∧ StableHlo.after (hostOps1_4 : List (HloOp τ sig (Elt F))) W (no_index (Proc.devRef .tc main_v4)) = W (Proc.devRef .tc main_v4) ∧ StableHlo.after (hostOps1_4 : List (HloOp τ sig (Elt F))) W (no_index (Proc.devRef .tc main_v11)) = W (Proc.devRef .tc main_v11) ∧ StableHlo.after (hostOps1_4 : List (HloOp τ sig (Elt F))) W (no_index (Proc.devRef .tc main_v20)) = W (Proc.devRef .tc main_v20) ∧ StableHlo.after (hostOps1_4 : List (HloOp τ sig (Elt F))) W (no_index (Proc.devRef .tc main_arg0)) = W (Proc.devRef .tc main_arg0) := by
  refine ⟨?_, ?_, ?_, ?_, ?_⟩ <;> after_reads_simp
/-- Stretch 5 leaves these buffers alone. -/
theorem keep5 : StableHlo.after (hostOps1_5 : List (HloOp τ sig (Elt F))) W (no_index (Proc.devRef .tc main_v3)) = W (Proc.devRef .tc main_v3) ∧ StableHlo.after (hostOps1_5 : List (HloOp τ sig (Elt F))) W (no_index (Proc.devRef .tc main_v4)) = W (Proc.devRef .tc main_v4) ∧ StableHlo.after (hostOps1_5 : List (HloOp τ sig (Elt F))) W (no_index (Proc.devRef .tc main_v11)) = W (Proc.devRef .tc main_v11) ∧ StableHlo.after (hostOps1_5 : List (HloOp τ sig (Elt F))) W (no_index (Proc.devRef .tc main_v20)) = W (Proc.devRef .tc main_v20) ∧ StableHlo.after (hostOps1_5 : List (HloOp τ sig (Elt F))) W (no_index (Proc.devRef .tc main_v21)) = W (Proc.devRef .tc main_v21) ∧ StableHlo.after (hostOps1_5 : List (HloOp τ sig (Elt F))) W (no_index (Proc.devRef .tc main_arg0)) = W (Proc.devRef .tc main_arg0) := by
  refine ⟨?_, ?_, ?_, ?_, ?_, ?_⟩ <;> after_reads_simp
/-- Stretch 6 leaves these buffers alone. -/
theorem keep6 : StableHlo.after (hostOps1_6 : List (HloOp τ sig (Elt F))) W (no_index (Proc.devRef .tc main_v4)) = W (Proc.devRef .tc main_v4) ∧ StableHlo.after (hostOps1_6 : List (HloOp τ sig (Elt F))) W (no_index (Proc.devRef .tc main_v20)) = W (Proc.devRef .tc main_v20) ∧ StableHlo.after (hostOps1_6 : List (HloOp τ sig (Elt F))) W (no_index (Proc.devRef .tc main_arg0)) = W (Proc.devRef .tc main_arg0) := by
  refine ⟨?_, ?_, ?_⟩ <;> after_reads_simp
/-- Stretch 7 leaves these buffers alone. -/
theorem keep7 : StableHlo.after (hostOps1_7 : List (HloOp τ sig (Elt F))) W (no_index (Proc.devRef .tc main_v4)) = W (Proc.devRef .tc main_v4) ∧ StableHlo.after (hostOps1_7 : List (HloOp τ sig (Elt F))) W (no_index (Proc.devRef .tc main_v20)) = W (Proc.devRef .tc main_v20) ∧ StableHlo.after (hostOps1_7 : List (HloOp τ sig (Elt F))) W (no_index (Proc.devRef .tc main_v34)) = W (Proc.devRef .tc main_v34) ∧ StableHlo.after (hostOps1_7 : List (HloOp τ sig (Elt F))) W (no_index (Proc.devRef .tc main_arg0)) = W (Proc.devRef .tc main_arg0) := by
  refine ⟨?_, ?_, ?_, ?_⟩ <;> after_reads_simp
/-- Stretch 8 leaves these buffers alone. -/
theorem keep8 : StableHlo.after (hostOps1_8 : List (HloOp τ sig (Elt F))) W (no_index (Proc.devRef .tc main_v20)) = W (Proc.devRef .tc main_v20) ∧ StableHlo.after (hostOps1_8 : List (HloOp τ sig (Elt F))) W (no_index (Proc.devRef .tc main_v34)) = W (Proc.devRef .tc main_v34) ∧ StableHlo.after (hostOps1_8 : List (HloOp τ sig (Elt F))) W (no_index (Proc.devRef .tc main_arg0)) = W (Proc.devRef .tc main_arg0) := by
  refine ⟨?_, ?_, ?_⟩ <;> after_reads_simp
/-- The chosen experts, flat. -/
theorem made3 : StableHlo.after (hostOps1 : List (HloOp τ sig (Elt F))) W (no_index (Proc.devRef .tc main_v3)) = flat (W (Proc.devRef .tc main_v2_0)) := by
  after_reads_simp
  generalize W (Proc.devRef .tc main_v2_0) = u0
  rfl
/-- The weights, flat. -/
theorem made4 : StableHlo.after (hostOps1 : List (HloOp τ sig (Elt F))) W (no_index (Proc.devRef .tc main_v4)) = shapeCast S4096 (W (Proc.devRef .tc main_v2_1)) shapeCasts_S2048x2_S4096 := by
  after_reads_simp
  generalize W (Proc.devRef .tc main_v2_1) = u0
  rfl
/-- The one-hot table. -/
theorem made11 : StableHlo.after (hostOps1 : List (HloOp τ sig (Elt F))) W (no_index (Proc.devRef .tc main_v11)) = hot (flat (W (Proc.devRef .tc main_v2_0))) := by
  after_reads_simp
  generalize W (Proc.devRef .tc main_v2_0) = u0
  rfl
/-- The counts before their division. -/
theorem made16 : StableHlo.after (hostOps1 : List (HloOp τ sig (Elt F))) W (no_index (Proc.devRef .tc main_v16)) = subi (addi (counts (hot (flat (W (Proc.devRef .tc main_v2_0))))) (broadcastInDim S8 ![] bcast_S_S8 (constantI S_ 32 256#32))) (broadcastInDim S8 ![] bcast_S_S8 (constantI S_ 32 1#32)) := by
  after_reads_simp
  generalize W (Proc.devRef .tc main_v2_0) = u0
  rfl
/-- The tile height. -/
theorem madeC2 : StableHlo.after (hostOps1 : List (HloOp τ sig (Elt F))) W (no_index (Proc.devRef .tc main_c_2)) = constantI S_ 32 256#32 := by
  after_reads_simp
/-- The number of tiles of each expert. -/
theorem made17 : StableHlo.after (hostOps1_1 : List (HloOp τ sig (Elt F))) W (no_index (Proc.devRef .tc main_v17)) = floorDiv bcast_S_S8 (W (Proc.devRef .tc main_v16)) (W (Proc.devRef .tc main_c_2)) := by
  after_reads_simp
  generalize W (Proc.devRef .tc main_v16) = u0
  generalize W (Proc.devRef .tc main_c_2) = u1
  rfl
/-- The padded counts. -/
theorem made19 : StableHlo.after (hostOps1_2 : List (HloOp τ sig (Elt F))) W (no_index (Proc.devRef .tc main_v19)) = muli (W (Proc.devRef .tc main_v17)) (broadcastInDim S8 ![] bcast_S_S8 (constantI S_ 32 256#32)) := by
  after_reads_simp
/-- Their running sums. -/
theorem made20 : StableHlo.after (hostOps1_3 : List (HloOp τ sig (Elt F))) W (no_index (Proc.devRef .tc main_v20)) = ends (W (Proc.devRef .tc main_v19)) := by
  after_reads_simp
  simp only [StableHlo.TRef.ofBuf_toBuf]
  refine (cast_eq _ _).trans ?_
  rw [show StableHlo.TRef.ofBuf (.of main_v19 : StableHlo.TRef sig ⟨S8, .i32⟩) (W (Proc.devRef .tc main_v19)) = W (Proc.devRef .tc main_v19) from cast_eq _ _]
  unfold ends
  rfl
/-- The first row of each expert. -/
theorem made21 : StableHlo.after (hostOps1_4 : List (HloOp τ sig (Elt F))) W (no_index (Proc.devRef .tc main_v21)) = subi (W (Proc.devRef .tc main_v20)) (W (Proc.devRef .tc main_v19)) := by
  after_reads_simp
/-- The running counts. -/
theorem made22 : StableHlo.after (hostOps1_5 : List (HloOp τ sig (Elt F))) W (no_index (Proc.devRef .tc main_v22)) = running (W (Proc.devRef .tc main_v11)) := by
  after_reads_simp
  simp only [StableHlo.TRef.ofBuf_toBuf]
  refine (cast_eq _ _).trans ?_
  rw [show StableHlo.TRef.ofBuf (.of main_v11 : StableHlo.TRef sig ⟨S4096x8, .i32⟩) (W (Proc.devRef .tc main_v11)) = W (Proc.devRef .tc main_v11) from cast_eq _ _]
  unfold running
  rfl
/-- The slots. -/
theorem made34 : StableHlo.after (hostOps1_6 : List (HloOp τ sig (Elt F))) W (no_index (Proc.devRef .tc main_v34)) = slots (W (Proc.devRef .tc main_v21)) (W (Proc.devRef .tc main_v3)) (ranksAt (W (Proc.devRef .tc main_v22)) (W (Proc.devRef .tc main_v11))) := by
  after_reads_simp
  generalize W (Proc.devRef .tc main_v21) = u0
  generalize W (Proc.devRef .tc main_v3) = u1
  generalize W (Proc.devRef .tc main_v22) = u2
  generalize W (Proc.devRef .tc main_v11) = u3
  rfl
/-- The assignments' numbers. -/
theorem made35 : StableHlo.after (hostOps1_6 : List (HloOp τ sig (Elt F))) W (no_index (Proc.devRef .tc main_v35)) = iotaInDim S4096 32 0 := by
  after_reads_simp
/-- The number of choices. -/
theorem madeC8 : StableHlo.after (hostOps1_6 : List (HloOp τ sig (Elt F))) W (no_index (Proc.devRef .tc main_c_8)) = constantI S_ 32 2#32 := by
  after_reads_simp
/-- The token of each assignment. -/
theorem made36 : StableHlo.after (hostOps1_7 : List (HloOp τ sig (Elt F))) W (no_index (Proc.devRef .tc main_v36)) = floorDiv bcast_S_S4096 (W (Proc.devRef .tc main_v35)) (W (Proc.devRef .tc main_c_8)) := by
  after_reads_simp
  generalize W (Proc.devRef .tc main_v35) = u0
  generalize W (Proc.devRef .tc main_c_8) = u1
  rfl
/-- The rows' weights. -/
theorem made56 : StableHlo.after (hostOps1_8 : List (HloOp τ sig (Elt F))) W (no_index (Proc.devRef .tc main_v56)) = rowWeightsAt (W (Proc.devRef .tc main_v34)) (W (Proc.devRef .tc main_v4)) := by
  after_reads_simp
  rw [show StableHlo.upto (hostOps1_8 : List (HloOp τ sig (Elt F))) W 25 (Proc.devRef .tc main_v53) = broadcastInDim S4096x1 ![0] bcast_S4096_S4096x1_0 (wrapped bcast_S_S4096 5888#32 (W (Proc.devRef .tc main_v34))) from by after_reads_simp; rfl,
    show StableHlo.upto (hostOps1_8 : List (HloOp τ sig (Elt F))) W 25 (Proc.devRef .tc main_v54) = broadcastInDim S4096x1 ![0] bcast_S4096_S4096x1_0 (broadcastInDim S4096 ![] bcast_S_S4096 (constantI S_ 32 0#32)) from by after_reads_simp; rfl]
  unfold rowWeightsAt
  rfl
/-- The tiles' experts. -/
theorem made68 : StableHlo.after (hostOps1_8 : List (HloOp τ sig (Elt F))) W (no_index (Proc.devRef .tc main_v68)) = tileExpert (W (Proc.devRef .tc main_v20)) := by
  after_reads_simp
  generalize W (Proc.devRef .tc main_v20) = u0
  rfl
/-- The tiles' flags. -/
theorem made73 : StableHlo.after (hostOps1_8 : List (HloOp τ sig (Elt F))) W (no_index (Proc.devRef .tc main_v73)) = tileActive (W (Proc.devRef .tc main_v20)) := by
  after_reads_simp
  generalize W (Proc.devRef .tc main_v20) = u0
  rfl
/-- The gathered rows. -/
theorem made80 : StableHlo.after (hostOps1_8 : List (HloOp τ sig (Elt F))) W (no_index (Proc.devRef .tc main_v80)) = sortedRows (W (Proc.devRef .tc main_arg0)) (tokensAt (W (Proc.devRef .tc main_v34)) (W (Proc.devRef .tc main_v36))) := by
  after_reads_simp
  generalize W (Proc.devRef .tc main_arg0) = u0
  generalize W (Proc.devRef .tc main_v34) = u1
  generalize W (Proc.devRef .tc main_v36) = u2
  rfl
/-- What the operations between the two calls leave, all six values at once. -/
theorem routed_all :
    routed W (Proc.devRef .tc main_v20) = endsOf (W (Proc.devRef .tc main_v2_0)) ∧
    routed W (Proc.devRef .tc main_v34) = slotsOf (W (Proc.devRef .tc main_v2_0)) ∧
    routed W (Proc.devRef .tc main_v68) = tileExpert (endsOf (W (Proc.devRef .tc main_v2_0))) ∧
    routed W (Proc.devRef .tc main_v73) = tileActive (endsOf (W (Proc.devRef .tc main_v2_0))) ∧
    routed W (Proc.devRef .tc main_v56) = rowWeights (slotsOf (W (Proc.devRef .tc main_v2_0))) (W (Proc.devRef .tc main_v2_1)) ∧
    routed W (Proc.devRef .tc main_v80) = sortedRows (W (Proc.devRef .tc main_arg0)) (tokens (slotsOf (W (Proc.devRef .tc main_v2_0)))) := by
  refine ⟨?_, ?_, ?_, ?_, ?_, ?_⟩ <;>
  simp only [routed, made3, made4, made11, made16, madeC2, made17, made19, made20, made21, made22, made34, made35, madeC8, made36, made56, made68, made73, made80, keep0, (keep1 _).1, (keep1 _).2.1, (keep1 _).2.2.1, (keep1 _).2.2.2, (keep2 _).1, (keep2 _).2.1, (keep2 _).2.2.1, (keep2 _).2.2.2, (keep3 _).1, (keep3 _).2.1, (keep3 _).2.2.1, (keep3 _).2.2.2.1, (keep3 _).2.2.2.2, (keep4 _).1, (keep4 _).2.1, (keep4 _).2.2.1, (keep4 _).2.2.2.1, (keep4 _).2.2.2.2, (keep5 _).1, (keep5 _).2.1, (keep5 _).2.2.1, (keep5 _).2.2.2.1, (keep5 _).2.2.2.2.1, (keep5 _).2.2.2.2.2, (keep6 _).1, (keep6 _).2.1, (keep6 _).2.2, (keep7 _).1, (keep7 _).2.1, (keep7 _).2.2.1, (keep7 _).2.2.2, (keep8 _).1, (keep8 _).2.1, (keep8 _).2.2, endsOf, slotsOf, padded, tokens, rowWeights, ranks]
/-- The running sums of the padded counts, at the end. -/
theorem routed_ends : routed W (Proc.devRef .tc main_v20) = endsOf (W (Proc.devRef .tc main_v2_0)) := (routed_all W).1
/-- The rows the assignments take. -/
theorem routed_slots : routed W (Proc.devRef .tc main_v34) = slotsOf (W (Proc.devRef .tc main_v2_0)) := (routed_all W).2.1
/-- The tiles' experts, from the chosen experts. -/
theorem routed_tileExpert : routed W (Proc.devRef .tc main_v68) = tileExpert (endsOf (W (Proc.devRef .tc main_v2_0))) := (routed_all W).2.2.1
/-- The tiles' flags, from the chosen experts. -/
theorem routed_tileActive : routed W (Proc.devRef .tc main_v73) = tileActive (endsOf (W (Proc.devRef .tc main_v2_0))) := (routed_all W).2.2.2.1
/-- The rows' weights, from the chosen experts and the weights. -/
theorem routed_rowWeights : routed W (Proc.devRef .tc main_v56) = rowWeights (slotsOf (W (Proc.devRef .tc main_v2_0))) (W (Proc.devRef .tc main_v2_1)) := (routed_all W).2.2.2.2.1
/-- The gathered rows, from the chosen experts. -/
theorem routed_sortedRows : routed W (Proc.devRef .tc main_v80) = sortedRows (W (Proc.devRef .tc main_arg0)) (tokens (slotsOf (W (Proc.devRef .tc main_v2_0)))) := (routed_all W).2.2.2.2.2
/-- The last host operations add the two rows of every token. -/
theorem summed_out : StableHlo.after hostOps2 W (Proc.devRef .tc main_v101) =
    addf (takeRows (W (Proc.devRef .tc main_v81)) (shapeCast S2048 (extractStridedSlice S2048x1 ![0, 0] (shapeCast S2048x2 (W (Proc.devRef .tc main_v34)) shapeCasts_S4096_S2048x2) slices_S2048x2_S2048x1_0_0) shapeCasts_S2048x1_S2048))
      (takeRows (W (Proc.devRef .tc main_v81)) (shapeCast S2048 (extractStridedSlice S2048x1 ![0, 1] (shapeCast S2048x2 (W (Proc.devRef .tc main_v34)) shapeCasts_S4096_S2048x2) slices_S2048x2_S2048x1_0_1) shapeCasts_S2048x1_S2048)) := by
  after_reads_simp
  generalize W (Proc.devRef .tc main_v81) = y
  generalize W (Proc.devRef .tc main_v34) = p
  rfl

end Cert.KernelIdeal.Hand

end
-- ==== Proof.HostTables.lean ====
/- The tables the host operations make for the tile computation. -/
module

public import proofs.«01_k».proof.Proof.TileRegion
public import proofs.«01_k».proof.Proof.Host

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)
open Cert.KernelIdeal.Gen

variable {F : FTy → Type} [FloatOps F]

local notation "𝕄" => MT nD τ sig Unit (Elt F) ℕ (UR sig nD τ) ℕ

open Idealize.ShloMosaic.Routing Idealize.ShloMosaic.ValueIdx in
/-- Every tile's expert is one of the eight. -/
theorem tileExpert_le (cum : IVec S8 32) (i : Fin 23) : (tileExpert cum (ValueIdx.ix1 i)).toNat ≤ 7 := by
  classical
  obtain ⟨n, hn, e⟩ : ∃ n, n ≤ 8 ∧ Host.reduce IntOp.addi (extui 32 (cmpi .sge (broadcastInDim S23x8 ![0, 1] bcast_S23x1_S23x8_0_1 (broadcastInDim S23x1 ![0] bcast_S23_S23x1_0 bases))
    (broadcastInDim S23x8 ![0, 1] bcast_S1x8_S23x8_0_1 (broadcastInDim S1x8 ![1] bcast_S8_S1x8_1 cum))) natLt_1_32) (constantI S_ 32 0#32) reducesTo_S23x8_S23_d1 h_S_ (ValueIdx.ix1 i) = BitVec.ofNat 32 n := by
    refine ⟨_, ?_, reduce_count (n := 23) (m := 8) (by decide) _ natLt_1_32 reducesTo_S23x8_S23_d1 h_S_ i
      (fun q => ∃ h : q < 8, cmpi .sge (broadcastInDim S23x8 ![0, 1] bcast_S23x1_S23x8_0_1 (broadcastInDim S23x1 ![0] bcast_S23_S23x1_0 bases))
        (broadcastInDim S23x8 ![0, 1] bcast_S1x8_S23x8_0_1 (broadcastInDim S1x8 ![1] bcast_S8_S1x8_1 cum)) (ValueIdx.ix2 i ⟨q, h⟩) = 1#1)
      (fun q => ⟨fun h => ⟨q.2, h⟩, fun ⟨_, h⟩ => h⟩)⟩
    exact Nat.count_le _
  unfold tileExpert
  show (IntOp.minsi _ 7#32).toNat ≤ 7
  rw [e]
  clear e
  revert n
  decide

/-- The tables the host operations leave keep every tile's block of weights inside its array. -/
theorem tables_ok (W : Valuation τ sig (Elt F)) :
    ok1 (F := F) (fun k => routed W (Proc.devRef .tc (Pipeline.Prefetch.ref pre1 k))) := by
  have h : ∀ j : S23.Idx, (routed W (Proc.devRef .tc main_v68) j).toNat ≤ 7 := fun j => by
    rw [routed_tileExpert, ValueIdx.eq_ix1 j]
    exact tileExpert_le _ _
  refine ⟨fun i => ⟨fun a => ?_, .inl rfl⟩, fun i => ⟨fun a => ?_, .inl rfl⟩, fun i => ⟨fun a => ?_, .inl rfl⟩⟩
  · match a with
    | ⟨0, _⟩ => exact (Nat.mul_one _).trans_le (Nat.succ_le_succ (h ((Rect.unit (s := S23) ![(Scalar.indexCast (BitVec.ofNat 32 (i 0).val)).toNat] S1.size (k1_off1_inb i)).point numel1_S1)))
    | ⟨1, _⟩ => exact le_of_eq rfl
    | ⟨2, _⟩ => exact le_of_eq rfl
  · match a with
    | ⟨0, _⟩ => exact (Nat.mul_one _).trans_le (Nat.succ_le_succ (h ((Rect.unit (s := S23) ![(Scalar.indexCast (BitVec.ofNat 32 (i 0).val)).toNat] S1.size (k1_off1_inb i)).point numel1_S1)))
    | ⟨1, _⟩ => exact le_of_eq rfl
    | ⟨2, _⟩ => exact le_of_eq rfl
  · match a with
    | ⟨0, _⟩ => exact (Nat.mul_one _).trans_le (Nat.succ_le_succ (h ((Rect.unit (s := S23) ![(Scalar.indexCast (BitVec.ofNat 32 (i 0).val)).toNat] S1.size (k1_off1_inb i)).point numel1_S1)))
    | ⟨1, _⟩ => exact le_of_eq rfl
    | ⟨2, _⟩ => exact le_of_eq rfl

end Cert.KernelIdeal.Hand

end
-- ==== Proof.Run.lean ====
/- The whole program's run, at any float type: its termination, its final contents and its frame. -/
module

public import proofs.«01_k».proof.Proof.Gen.KernelIdeal.Regions
public import proofs.«01_k».proof.Proof.RouterRegion
public import proofs.«01_k».proof.Proof.TileRegion
public import proofs.«01_k».proof.Proof.HostTables
public import Idealize.ShloMosaic.Lib.Pipeline.RegionArraysS
public import Idealize.ShloMosaic.Lib.Pipeline.RegionArraysTS

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two regions leave -/

/-- What the router's region leaves in each buffer. -/
def outsA : Outs (F := F) := fun _ r c => Pipeline.afterRegion (dat0 (V1 m) c) (V1 m c) (Proc.devRef .tc r)

/-- The tables the tile computation prefetches, as the host operations leave them. -/
def tables : Tables F := ⟨fun k => V11 m (outsA m) 0 (Proc.devRef .tc (pre1.ref k)), tables_ok (V2 m (outsA m) 0)⟩

/-- What both regions leave: the tile computation's after the router's and the host operations between them. -/
def outs : Outs (F := F)
  | 12, r, c => Pipeline.afterRegion (dat1 (tables m) (V11 m (outsA m)) c) (V11 m (outsA m) c) (Proc.devRef .tc r)
  | _, r, c => outsA m 2 r c

/-- The contents before the tile computation do not depend on what it leaves. -/
theorem V11_outs (c : Dev nD) : V11 m (outs m) c = V11 m (outsA m) c := rfl

/-- After the router's region the buffers are as found but for its two results. -/
theorem V2_eq (c : Dev nD) : V2 m (outs m) c = Pipeline.afterRegion (dat0 (V1 m) c) (V1 m c) := by
  funext b
  by_cases h1 : b = Proc.devRef .tc main_v2_1
  · subst h1; exact Function.update_self ..
  by_cases h0 : b = Proc.devRef .tc main_v2_0
  · subst h0; rw [V2, Function.update_of_ne (by decide)]; exact Function.update_self ..
  rw [V2, Function.update_of_ne h1, Function.update_of_ne h0]
  by_cases h : ∃ w : Fin cfg0.W, b = Proc.devRef .tc (Pipeline.arrRef spec0 w)
  · obtain ⟨w, rfl⟩ := h
    refine (Eq.trans ?_ (Pipeline.afterRegion_arr (dat0 (V1 m) c) (V1 m c) (launch0 (F := F)).win.arr_inj w).symm)
    have hw : (cfg0.win w).isOut = false := by
      revert h0 h1; revert w; decide
    rw [(dat0 (V1 m) c).arrAt_in w hw, dat0_A]
  · unfold Pipeline.afterRegion
    rw [dif_neg h]

/-- After the tile computation's region the buffers are as found but for its one result. -/
theorem V12_eq (c : Dev nD) : V12 m (outs m) c = Pipeline.afterRegion (dat1 (tables m) (V11 m (outs m)) c) (V11 m (outs m) c) := by
  funext b
  by_cases h1 : b = Proc.devRef .tc main_v81
  · subst h1; exact Function.update_self ..
  rw [V12, Function.update_of_ne h1]
  by_cases h : ∃ w : Fin (cfg1 (tables m)).W, b = Proc.devRef .tc (Pipeline.arrRef spec1 w)
  · obtain ⟨w, rfl⟩ := h
    refine (Eq.trans ?_ (Pipeline.afterRegion_arr (dat1 (tables m) (V11 m (outs m)) c) (V11 m (outs m) c) (launch1 (F := F)).win.arr_inj w).symm)
    have hw : (spec1 w).isOut = false :=
      (show ∀ w : Fin 6, ¬ Proc.devRef (τ := τ) .tc (Pipeline.arrRef spec1 w) = Proc.devRef .tc main_v81 → (spec1 w).isOut = false by decide) w h1
    rw [(dat1 (tables m) (V11 m (outs m)) c).arrAt_in w hw, dat1_A]
  · unfold Pipeline.afterRegion
    rw [dif_neg h]

/-! ## The regions as segments of the run -/

/-- The tables each pipeline is entered with. -/
def adm : (p : Fin 2) → (pcfgs (F := F) p).Adm
  | ⟨0, _⟩ => cfg0.toPCfg_adm
  | ⟨1, _⟩ => tables m

/-- The proof data of the two pipelines. -/
def pdats : (p : Fin 2) → (c : Dev nD) → Dat τ (Elt F) Unit ℕ (UR sig nD τ) ℕ (Pipeline.pin (pcfgs (F := F)) (adm m) p) c
  | ⟨0, _⟩ => fun c => dat0 (V1 m) c
  | ⟨1, _⟩ => fun c => dat1 (tables m) (V11 m (outs m)) c

/-- Every TensorCore's semaphores are assigned one level. -/
def levels : GSem nD τ sig → Finset Unit := fun g => if g.1.2 = .tc then {()} else ∅

/-- No other core has a level. -/
theorem levels_off (g : GSem nD τ sig) (h : g.1.2 ≠ .tc) : levels g = ∅ := if_neg h

/-- What rides beside the buffers: the generator register and the core owing nothing. -/
def rest (_ : Fin 3) (c : Dev nD) : sProp 𝕄 :=
  iprop((∃ W, owes (c : Thread nD τ) (0 : CellTallies nD τ sig Unit) W) ∗ (∃ r, prngReg c r) ∗ emp)

/-- Every semaphore of a pipeline has the one level, and nothing is owed at it. -/
theorem cut (p : Fin 2) : Pipeline.LevelCut (pcfgs (F := F)) (adm m) () levels (fun _ _ => 0) p (fun _ => (0 : CellTallies nD τ sig Unit)) (fun _ => (0 : ℕ)) where
  hι c w s := by simp [levels]
  hιb _ _ _ := le_rfl
  hD _ _ _ h := absurd h (lt_irrefl _)

set_option backward.isDefEq.respectTransparency.types false in
/-- The router's region. -/
def R0 : RegionSeg (pcfgs (F := F)) (adm m) (pdats m) () defs₀ Variants.none levels (fun _ _ => 0) 0 :=
  RegionSeg.ofHeldIn (pcfgs (F := F)) (adm m) (pdats m) () defs₀ Variants.none levels (fun _ _ => 0) 0 (fun _ => 0)
    (Pipeline.ucRefs τ sig) (fun c => iprop(∃ r, prngReg c r)) (fun c => iprop(∃ r, prngReg c r)) launch0 rfl
    (hbody := fun c => (body_obligation0 (V1 m) c).loose) (howed := fun _ _ => rfl) (hrec := fun _ => rfl)
    (hshare := fun c w => (dat0 (V1 m) c).share_full (fun _ => rfl) w)
    (hin := fun c => .rfl) (hout := fun c => .rfl) (fun _ => 0) (cut m 0) (fun _ => iprop(emp)) (V1 m)
    (hW := fun c w => dat0_A (V1 m) c w)

set_option backward.isDefEq.respectTransparency.types false in
/-- The tile computation's region. -/
def R1 : RegionSeg (pcfgs (F := F)) (adm m) (pdats m) () defs₀ Variants.none levels (fun _ _ => 0) 1 :=
  RegionSeg.ofHeldInT (pcfgs (F := F)) (adm m) (pdats m) () defs₀ Variants.none levels (fun _ _ => 0) 1 (fun _ => 0)
    (Pipeline.ucRefs τ sig) (fun c => iprop(∃ r, prngReg c r)) (fun c => iprop(∃ r, prngReg c r)) launch1
    (hbody := fun c => (body_obligation1 (tables m) (V11 m (outs m)) c).loose) (howed := fun _ _ => rfl) (hrec := fun _ => rfl)
    (hshare := fun c w => (dat1 (tables m) (V11 m (outs m)) c).share_full (fun _ => rfl) w)
    (hin := fun c => .rfl) (hout := fun c => .rfl) (fun _ => 0) (cut m 1) (fun _ => iprop(emp)) (V11 m (outs m))
    (hW := fun c w => dat1_A (tables m) (V11 m (outs m)) c w)
    (hT := fun c k => by obtain rfl : c = 0 := Subsingleton.elim _ _; rfl)

/-- The arrays the router's region stages are unscoped. -/
theorem arr0_sub : Pipeline.arrRefs (τ := τ) (pcfgs (F := F) 0).spec ⊆ Pipeline.ucRefs τ sig :=
  Pipeline.arrRefs_sub_ucRefs _ launch0.win.arr_unscoped
/-- The arrays the tile computation's region stages are unscoped. -/
theorem arr1_sub : Pipeline.arrRefs (τ := τ) (pcfgs (F := F) 1).spec ⊆ Pipeline.ucRefs τ sig :=
  Pipeline.arrRefs_sub_ucRefs _ launch1.win.arr_unscoped
/-- The tables it prefetches are unscoped. -/
theorem tbl1_sub : Pipeline.tblRefs (τ := τ) (pcfgs (F := F) 1).pre ⊆ Pipeline.ucRefs τ sig :=
  Pipeline.tblRefs_sub_ucRefs _ launch1.pre.unscoped

set_option backward.isDefEq.respectTransparency.types false in
/-- The router's region is entered from the contents before it, -/
theorem enter0 (c : Dev nD) : iprop(StableHlo.held (c.tc : Thread nD τ) (Pipeline.ucRefs τ sig) (V1 m c) ∗ rest (F := F) 0 c) ⊢ (R0 m).pre c := by
  unfold R0 rest
  exact RegionSeg.ofHeldIn_pre (pcs := pcfgs (F := F)) (a := adm m) (pdats := pdats m) (ι := ()) (defs₀ := defs₀) (𝒱₀ := Variants.none) (L := levels) (lv := fun _ _ => 0) (p := 0) (D := fun _ => 0) (W := V1 m) (X := fun c => iprop(∃ r, prngReg c r)) (Y := fun c => iprop(∃ r, prngReg c r)) (R := fun _ => iprop(emp)) (arr0_sub (F := F)) c
set_option backward.isDefEq.respectTransparency.types false in
/-- and left at the contents after it. -/
theorem leave0 (c : Dev nD) : (R0 m).post c ⊢ iprop(StableHlo.held (c.tc : Thread nD τ) (Pipeline.ucRefs τ sig) (V2 m (outs m) c) ∗ rest (F := F) 1 c) := by
  rw [V2_eq]
  unfold R0 rest
  exact RegionSeg.ofHeldIn_post (pcs := pcfgs (F := F)) (a := adm m) (pdats := pdats m) (ι := ()) (defs₀ := defs₀) (𝒱₀ := Variants.none) (L := levels) (lv := fun _ _ => 0) (p := 0) (D := fun _ => 0) (W := V1 m) (X := fun c => iprop(∃ r, prngReg c r)) (Y := fun c => iprop(∃ r, prngReg c r)) (R := fun _ => iprop(emp)) (arr0_sub (F := F)) c
set_option backward.isDefEq.respectTransparency.types false in
/-- The tile computation's region is entered from the contents before it, -/
theorem enter1 (c : Dev nD) : iprop(StableHlo.held (c.tc : Thread nD τ) (Pipeline.ucRefs τ sig) (V11 m (outs m) c) ∗ rest (F := F) 1 c) ⊢ (R1 m).pre c := by
  unfold R1 rest
  exact RegionSeg.ofHeldInT_pre (pcs := pcfgs (F := F)) (a := adm m) (pdats := pdats m) (ι := ()) (defs₀ := defs₀) (𝒱₀ := Variants.none) (L := levels) (lv := fun _ _ => 0) (p := 1) (D := fun _ => 0) (W := V11 m (outs m)) (X := fun c => iprop(∃ r, prngReg c r)) (Y := fun c => iprop(∃ r, prngReg c r)) (R := fun _ => iprop(emp)) (arr1_sub (F := F)) (tbl1_sub (F := F)) c
set_option backward.isDefEq.respectTransparency.types false in
/-- and left at the contents after it. -/
theorem leave1 (c : Dev nD) : (R1 m).post c ⊢ iprop(StableHlo.held (c.tc : Thread nD τ) (Pipeline.ucRefs τ sig) (V12 m (outs m) c) ∗ rest (F := F) 2 c) := by
  rw [V12_eq]
  unfold R1 rest
  exact RegionSeg.ofHeldInT_post (pcs := pcfgs (F := F)) (a := adm m) (pdats := pdats m) (ι := ()) (defs₀ := defs₀) (𝒱₀ := Variants.none) (L := levels) (lv := fun _ _ => 0) (p := 1) (D := fun _ => 0) (W := V11 m (outs m)) (X := fun c => iprop(∃ r, prngReg c r)) (Y := fun c => iprop(∃ r, prngReg c r)) (R := fun _ => iprop(emp)) (arr1_sub (F := F)) (tbl1_sub (F := F)) c

/-! ## The run -/

set_option backward.isDefEq.respectTransparency.types false in
set_option maxHeartbeats 2000000 in
/-- From any memory with zero counters every weakly fair execution of the program terminates, every unscoped buffer holds
    what the last valuation says and every counter is zero. -/
theorem run : θ_run defs (onTc (τ := τ) (main (F := F))) ⟨m, fun _ => 0, ρ⟩ (fun r =>
      (∀ c : Dev nD, ∀ b ∈ Pipeline.ucRefs τ sig, r.2.mem ((c : Thread nD τ).1, b) = V13 m (outs m) c b) ∧ r.2.sem = fun _ => 0) := by
  refine Pipeline.θ_run_regions_kit_dev_sems (pcfgs (F := F)) (adm m) (pdats m) () (cellOf_inj (adm m)) emb₁ defs₀ Variants.none
    levels (fun _ _ => 0) m ρ main
    (segs m (outs m) Variants.none levels (fun _ _ => 0) rest () (adm m) (pdats m) (R0 m) (R1 m))
    (fun c Q => by
      rewrite [main_chain c, Seg.run_eq_chain,
        show (segs m (outs m) Variants.none levels (fun _ _ => 0) rest () (adm m) (pdats m) (R0 m) (R1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) 0 levels_off (fun _ => iprop(emp))
    (initOf (Pipeline.cells (Pipeline.pin (pcfgs (F := F)) (adm m)) (cellOf_inj (adm m))) (Pipeline.launchToks (Pipeline.pin (pcfgs (F := F)) (adm m)) (cellOf_inj (adm m))))
    (by
      iintro Hu; imodintro
      isplitl [Hu]
      · iapply (show (ownU _ : sProp 𝕄) ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest (F := F) 0 c))
    (Tₙ := fun c => StableHlo.held (c : Thread nD τ) (Pipeline.ucRefs τ sig) (V13 m (outs m) c))
    (hch := fun c => ⟨.rfl, enter0 m c, leave0 m c, .rfl, .rfl, .rfl, .rfl, .rfl, .rfl, .rfl, .rfl, enter1 m c, leave1 m c, sep_mono .rfl (by
      unfold rest; iintro ⟨H, -⟩; iexact H)⟩)
    (hinit := ?_)
    (QY := fun c s => ∀ b ∈ Pipeline.ucRefs τ sig, s.mem ((c : Thread nD τ).1, b) = V13 m (outs m) c b)
    (hfin := fun c s' => ?_) (hQ := fun _ h hz => ⟨h, funext fun g => hz g (.inr (regions_no_unscoped g.2))⟩)
  · refine Pipeline.initEach levels (fun _ _ => 0) fun c => ?_
    rw [show unscopedBufs c (fun b => m ((c : Thread nD τ).loc b)) = StableHlo.held (c : Thread nD τ) (Pipeline.ucRefs τ sig) (V0 m c) from Pipeline.unscopedBufs_held c (V0 m c)]
    unfold rest
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (V13 m (outs m) c) s') $$ [Hh HSI]
    · isplitl [Hh] <;> iassumption
    imodintro
    iexact Hr

/-- A TensorCore buffer that is not scoped reads the last valuation at the end. -/
theorem run_reads {mem : (ℓ : Loc nD τ sig) → Buf (Elt F) ℓ} {c : Dev nD} (h : ∀ b ∈ Pipeline.ucRefs τ sig, mem ((c : Thread nD τ).1, b) = V13 m (outs m) c b)
    (r : Ref sig .tc) (hr : r.isScoped = false) : mem ((c.tc : Thread nD τ).loc r) = V13 m (outs m) c (Proc.devRef .tc r) :=
  h _ (Pipeline.devRef_mem_ucRefs hr)

/-- THE FRAME: the program terminates with its arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(run_reads m (h.1 c) main_arg0 rfl).trans (V13_main_arg0 m (outs m) c),
      (run_reads m (h.1 c) main_arg1 rfl).trans (V13_main_arg1 m (outs m) c),
      (run_reads m (h.1 c) main_arg2 rfl).trans (V13_main_arg2 m (outs m) c),
      (run_reads m (h.1 c) main_arg3 rfl).trans (V13_main_arg3 m (outs m) c),
      (run_reads m (h.1 c) main_arg4 rfl).trans (V13_main_arg4 m (outs m) c),
      (run_reads m (h.1 c) main_arg5 rfl).trans (V13_main_arg5 m (outs m) c)⟩, h.2⟩) (run m ρ)

end Cert.KernelIdeal.Hand

end
-- ==== Proof.Frames.lean ====
/- The frames of the three programs. -/
module

public import proofs.«01_k».proof.Proof.Run
public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_later_bias_finite
public import proofs.«01_k».proof.Proof.Printed.Run
public import Idealize.ShloMosaic.Lib.Quiescent

@[expose] public section

set_option maxRecDepth 65536

noncomputable section

namespace Cert.Hand

open Idealize.ShloMosaic Idealize.ShloMosaic.TcCoe Idealize.SL.Sem

attribute [local instance] Cert.Kernel.Gen.facts Cert.KernelIdeal.Gen.facts Cert.ReferenceIdeal.Gen.facts Cert.Pre_later_bias_finite.Gen.facts

/-- The kernel as printed runs, leaves its arguments as they were and every counter at zero. -/
theorem frame_kernel : Cert.quiescent_Kernel := fun m g _ => Cert.Kernel.Hand.frame (F := Bits) m g

/-- So does the kernel over the extended reals, -/
theorem frame_ideal : Cert.quiescent_KernelIdeal := fun m g _ => Cert.KernelIdeal.Hand.frame (F := Ideal) m g

/-- also where the precondition holds; -/
theorem frame_ideal_pre : Cert.quiescent_KernelIdeal_pre_later_bias_finite := fun m g _ => Cert.KernelIdeal.Hand.frame (F := Ideal) m g

/-- and the reference, -/
theorem frame_reference : Cert.quiescent_ReferenceIdeal := fun m g _ =>
  (θ_run _ _ _).mono (fun r h => ⟨fun c => (h c).2.2, sem_eq_zero_of_no_sems rfl _⟩) (Cert.ReferenceIdeal.Value.run (F := Ideal) m g)

/-- also where the precondition holds. -/
theorem frame_reference_pre : Cert.quiescent_ReferenceIdeal_pre_later_bias_finite := fun m g _ => frame_reference m g trivial

end Cert.Hand

end
-- ==== Proof.Choice.lean ====
/- The two best of eight scores, in order: what a pair of experts must satisfy to be the choice, and the ways the programs find it. -/
module

public import Idealize.ShloMosaic.Lib.SortPrefix
public import Idealize.ShloMosaic.Lib.SortFacts
public import Idealize.ShloMosaic.PureOps.Ideal
public import Idealize.ShloMosaic.PureOps.Ideal.Laws
public import Idealize.ShloMosaic.PureOps.Reduce

@[expose] public section

noncomputable section

namespace Cert.Moe

open Idealize.ShloMosaic

/-- `a` is the first of the greatest of `f`, and `b` the first of the greatest of the others. -/
structure Top2 (f : Fin 8 → EReal) (a b : Fin 8) : Prop where
  /-- Nothing exceeds the value at `a`, -/
  best : ∀ j, f j ≤ f a
  /-- and everything before `a` is less. -/
  first : ∀ j, j < a → f j < f a
  /-- The second is another one; -/
  ne : b ≠ a
  /-- no other exceeds its value, -/
  next : ∀ j, j ≠ a → f j ≤ f b
  /-- and every other before it is less. -/
  firstNext : ∀ j, j < b → j ≠ a → f j < f b

/-- Among the positions of a nonempty set there is a first greatest one. -/
theorem exists_first (f : Fin 8 → EReal) (s : Finset (Fin 8)) (hs : s.Nonempty) :
    ∃ a ∈ s, (∀ j ∈ s, f j ≤ f a) ∧ ∀ j ∈ s, j < a → f j < f a := by
  obtain ⟨m, hm, hmax⟩ := s.exists_max_image f hs
  have hne : (s.filter fun j => f j = f m).Nonempty := ⟨m, Finset.mem_filter.2 ⟨hm, rfl⟩⟩
  have h := Finset.mem_filter.1 (Finset.min'_mem _ hne)
  refine ⟨_, h.1, fun j hj => (hmax j hj).trans_eq h.2.symm, fun j hj hlt => lt_of_le_of_ne ((hmax j hj).trans_eq h.2.symm) fun e => ?_⟩
  exact absurd (Finset.min'_le _ j (Finset.mem_filter.2 ⟨hj, e.trans h.2⟩)) (not_le.2 hlt)

/-- Every eight values have a best and a second. -/
theorem exists_top2 (f : Fin 8 → EReal) : ∃ a b, Top2 f a b := by
  obtain ⟨a, -, h1, h2⟩ := exists_first f Finset.univ ⟨0, Finset.mem_univ _⟩
  have hne : (Finset.univ.erase a).Nonempty := by
    refine Finset.card_pos.1 ?_
    rw [Finset.card_erase_of_mem (Finset.mem_univ _)]
    decide
  obtain ⟨b, hb, h3, h4⟩ := exists_first f (Finset.univ.erase a) hne
  exact ⟨a, b, fun j => h1 j (Finset.mem_univ _), fun j => h2 j (Finset.mem_univ _), (Finset.mem_erase.1 hb).1,
    fun j hj => h3 j (Finset.mem_erase.2 ⟨hj, Finset.mem_univ _⟩), fun j hl hj => h4 j (Finset.mem_erase.2 ⟨hj, Finset.mem_univ _⟩) hl⟩

/-- Inserting before later positions, ties may be broken by the position. -/
theorem insertBefore_lex (R B : Fin 8 → Fin 8 → Bool) (h : ∀ a b, a < b → R b a = B b a) (a : Fin 8) (l : List (Fin 8)) (hl : ∀ b ∈ l, a < b) :
    insertBefore R a l = insertBefore B a l := by
  induction l with
  | nil => rfl
  | cons b l ih =>
    unfold insertBefore
    rw [h a b (hl b (by simp)), ih fun c hc => hl c (by simp [hc])]

/-- So the stable sort of increasing positions is the sort that breaks ties by the position. -/
theorem stableSort_lex (R B : Fin 8 → Fin 8 → Bool) (h : ∀ a b, a < b → R b a = B b a) (l : List (Fin 8)) (hl : l.Pairwise (· < ·)) :
    stableSort R l = stableSort B l := by
  induction l with
  | nil => rfl
  | cons a l ih =>
    rw [List.pairwise_cons] at hl
    unfold stableSort
    rw [ih hl.2]
    exact insertBefore_lex R B h a _ fun b hb => hl.1 b ((perm_stableSort B l).mem_iff.1 hb)

/-- Greater first, and of equal values the earlier position. -/
def before (f : Fin 8 → EReal) (k k' : Fin 8) : Bool := decide (f k' < f k ∨ f k = f k' ∧ k < k')

/-- That order is strict and total. -/
theorem before_total (f : Fin 8 → EReal) : StrictTotalBefore (before f) where
  irrefl a := by simp [before]
  trans a b c := by
    simp only [before, decide_eq_true_eq]
    rintro (h | ⟨h, h'⟩) (k | ⟨k, k'⟩)
    · exact .inl (k.trans h)
    · exact .inl (k ▸ h)
    · exact .inl (h ▸ k)
    · exact .inr ⟨h.trans k, h'.trans k'⟩
  total a b hab := by
    simp only [before, decide_eq_true_eq]
    rcases lt_trichotomy (f a) (f b) with h | h | h
    · exact .inr (.inl h)
    · rcases lt_or_gt_of_ne hab with k | k
      · exact .inl (.inr ⟨h, k⟩)
      · exact .inr (.inr ⟨h.symm, k⟩)
    · exact .inl (.inl h)

/-- A stable sort that puts the greater first begins with the best and the second. -/
theorem sorted_top2 {f : Fin 8 → EReal} {a b : Fin 8} (t : Top2 f a b) (R : Fin 8 → Fin 8 → Bool) (hR : ∀ k k', R k k' = decide (f k' < f k)) :
    sortedFrom R 0 = a ∧ sortedFrom R 1 = b := by
  have e : sortedFrom R = sortedFrom (before f) := by
    funext k
    unfold sortedFrom
    have : sortPositions 8 R = sortPositions 8 (before f) := stableSort_lex _ _ (fun a b h => by
      rw [hR, before, decide_eq_decide]
      constructor
      · exact .inl
      · rintro (h' | ⟨-, h'⟩)
        · exact h'
        · exact absurd h' (lt_asymm h)) _ (List.pairwise_lt_finRange 8)
    rw [List.get_of_eq this]
    rfl
  rw [e]
  have hB := before_total f
  have key := hB.sortedFrom_eq_of_prefix (n := 8) (k := 2) (by decide) ![a, b] (by
      intro i j h
      fin_cases i <;> fin_cases j <;> first | rfl | exact absurd h t.ne | exact absurd h.symm t.ne) (by
      intro i j h
      fin_cases i <;> fin_cases j <;> first | exact absurd h (by decide) | skip
      show before f b a = false
      simp only [before, decide_eq_false_iff_not, not_or, not_and, not_lt]
      refine ⟨t.best b, fun h' => ?_⟩
      by_contra hlt
      exact absurd (t.first b (not_le.1 hlt)) (h' ▸ lt_irrefl _)) (by
      intro i p h
      have pa : p ≠ a := fun e => h 0 e.symm
      have pb : p ≠ b := fun e => h 1 e.symm
      fin_cases i
      · show before f p a = false
        simp only [before, decide_eq_false_iff_not, not_or, not_and, not_lt]
        refine ⟨t.best p, fun h' => ?_⟩
        by_contra hlt
        exact absurd (t.first p (not_le.1 hlt)) (h' ▸ lt_irrefl _)
      · show before f p b = false
        simp only [before, decide_eq_false_iff_not, not_or, not_and, not_lt]
        refine ⟨t.next p pa, fun h' => ?_⟩
        by_contra hlt
        exact absurd (t.firstNext p (not_le.1 hlt) pa) (h' ▸ lt_irrefl _))
  exact ⟨key 0, key 1⟩

/-- A fold over eight positions, written out. -/
theorem fold8 {α : Type} (op : α → α → α) [Std.Commutative op] [Std.Associative op] (z : α) (g : Fin 8 → α) :
    (Finset.univ : Finset (Fin 8)).fold op z g = op (g 0) (op (g 1) (op (g 2) (op (g 3) (op (g 4) (op (g 5) (op (g 6) (op (g 7) z))))))) := by
  have hu : (Finset.univ : Finset (Fin 8)) = {0, 1, 2, 3, 4, 5, 6, 7} := by decide
  rw [hu]
  iterate 7 rw [Finset.fold_insert (by decide)]
  rw [Finset.fold_singleton]

/-- The least of eight words, each its position where marked and else eight. -/
theorem minsi8 : ∀ c0 c1 c2 c3 c4 c5 c6 c7 : Bool, IntOp.minsi (if c0 then 0#32 else 8#32) (IntOp.minsi (if c1 then 1#32 else 8#32) (IntOp.minsi (if c2 then 2#32 else 8#32)
      (IntOp.minsi (if c3 then 3#32 else 8#32) (IntOp.minsi (if c4 then 4#32 else 8#32) (IntOp.minsi (if c5 then 5#32 else 8#32)
      (IntOp.minsi (if c6 then 6#32 else 8#32) (IntOp.minsi (if c7 then 7#32 else 8#32) 2147483647#32)))))))
      = if c0 then 0#32 else if c1 then 1#32 else if c2 then 2#32 else if c3 then 3#32 else if c4 then 4#32 else if c5 then 5#32 else if c6 then 6#32 else if c7 then 7#32 else 8#32 := by
  decide +kernel

/-- The least of the marked positions among eight, the unmarked ones counting as eight. -/
theorem least8 (b : Fin 8 → Bool) (a : Fin 8) (ha : b a = true) (hlt : ∀ j, j < a → b j = false) :
    (Finset.univ : Finset (Fin 8)).fold IntOp.minsi 2147483647#32 (fun k => if b k then BitVec.ofNat 32 k.val else 8#32) = BitVec.ofNat 32 a.val := by
  rw [fold8]
  refine (minsi8 (b 0) (b 1) (b 2) (b 3) (b 4) (b 5) (b 6) (b 7)).trans ?_
  match a, ha, hlt with
  | 0, ha, _ => rw [ha]; rfl
  | 1, ha, h => rw [h 0 (by decide), ha]; rfl
  | 2, ha, h => rw [h 0 (by decide), h 1 (by decide), ha]; rfl
  | 3, ha, h => rw [h 0 (by decide), h 1 (by decide), h 2 (by decide), ha]; rfl
  | 4, ha, h => rw [h 0 (by decide), h 1 (by decide), h 2 (by decide), h 3 (by decide), ha]; rfl
  | 5, ha, h => rw [h 0 (by decide), h 1 (by decide), h 2 (by decide), h 3 (by decide), h 4 (by decide), ha]; rfl
  | 6, ha, h => rw [h 0 (by decide), h 1 (by decide), h 2 (by decide), h 3 (by decide), h 4 (by decide), h 5 (by decide), ha]; rfl
  | 7, ha, h => rw [h 0 (by decide), h 1 (by decide), h 2 (by decide), h 3 (by decide), h 4 (by decide), h 5 (by decide), h 6 (by decide), ha]; rfl

/-- The greatest of eight, from minus infinity. -/
theorem greatest8 (g : Fin 8 → EReal) (a : Fin 8) (h : ∀ j, g j ≤ g a) :
    (Finset.univ : Finset (Fin 8)).fold max ⊥ g = g a := by
  apply le_antisymm
  · exact (Finset.fold_max_le _).2 ⟨bot_le, fun j _ => h j⟩
  · exact (Finset.le_fold_max _).2 (.inr ⟨a, Finset.mem_univ _, le_rfl⟩)

/-- The values with position `a` struck out. -/
def struck (f : Fin 8 → EReal) (a : Fin 8) (e : Fin 8) : EReal := if e = a then ⊥ else f e

/-- The greatest value left is the second's. -/
theorem Top2.greatest_struck {f : Fin 8 → EReal} {a b : Fin 8} (t : Top2 f a b) (j : Fin 8) : struck f a j ≤ struck f a b := by
  unfold struck
  rw [if_neg t.ne]
  split
  · exact bot_le
  · exact t.next j ‹_›

/-- Where some later value is above minus infinity, the first position that holds the greatest value left is the second's. -/
theorem Top2.first_struck {f : Fin 8 → EReal} {a b : Fin 8} (t : Top2 f a b) (hf : ∃ j, j ≠ 0 ∧ f j ≠ ⊥) (j : Fin 8) (hj : j < b) :
    struck f a j ≠ struck f a b := by
  unfold struck
  rw [if_neg t.ne]
  split
  · intro h
    subst j
    obtain ⟨k, hk, hk'⟩ := hf
    have ka : k = a := by
      by_contra hne
      exact hk' (le_bot_iff.1 (h ▸ t.next k hne))
    subst ka
    have := t.firstNext 0 ((Fin.pos_of_ne_zero hk).trans hj) hk.symm
    rw [← h] at this
    exact not_lt_bot this
  · exact (t.firstNext j hj ‹_›).ne

end Cert.Moe

end
-- ==== Proof.Spec.lean ====
/- What the programs compute, by coordinates, over the extended reals. -/
module

public import proofs.«01_k».proof.Proof.Choice
public import Idealize.ShloMosaic.Lib.ValueIdx

@[expose] public section

noncomputable section

namespace Cert.Moe

open Idealize.ShloMosaic Idealize.ShloMosaic.ValueIdx

variable (x : (⟨2, ![2048, 2048]⟩ : Shape).Idx → EReal) (wr : (⟨2, ![8, 2048]⟩ : Shape).Idx → EReal) (bias : (⟨1, ![8]⟩ : Shape).Idx → EReal)
  (wg wu : (⟨3, ![8, 2048, 1024]⟩ : Shape).Idx → EReal) (wd : (⟨3, ![8, 1024, 2048]⟩ : Shape).Idx → EReal)

/-- A token's score for an expert. -/
def score (t : Fin 2048) (e : Fin 8) : EReal := Ideal.logistic (∑ d : Fin 2048, x (ix2 t d) * wr (ix2 e d))
/-- The score the choice is made by: the bias is added. -/
def choice (t : Fin 2048) (e : Fin 8) : EReal := score x wr t e + bias (ix1 e)
/-- The token's best expert, -/
def pick0 (t : Fin 2048) : Fin 8 := (exists_top2 (choice x wr bias t)).choose
/-- and its second. -/
def pick1 (t : Fin 2048) : Fin 8 := (exists_top2 (choice x wr bias t)).choose_spec.choose
/-- They are the two greatest of the scores the choice is made by. -/
theorem picks (t : Fin 2048) : Top2 (choice x wr bias t) (pick0 x wr bias t) (pick1 x wr bias t) :=
  (exists_top2 (choice x wr bias t)).choose_spec.choose_spec
/-- The two, by place. -/
def pick (t : Fin 2048) (k : Fin 2) : Fin 8 := ![pick0 x wr bias t, pick1 x wr bias t] k
/-- The small constant the weights' denominators are kept above zero by. -/
def tiny : EReal := Ideal.ofBits .f32 0x1E3CE508#32
/-- The weight of the expert in place `k`: its share of the two scores. -/
def weight (t : Fin 2048) (k : Fin 2) : EReal :=
  Ideal.div (score x wr t (pick x wr bias t k)) (score x wr t (pick0 x wr bias t) + score x wr t (pick1 x wr bias t) + tiny)
/-- The chosen experts as an array of words. -/
def picks2 : IVec ⟨2, ![2048, 2]⟩ 32 := fun i => BitVec.ofNat 32 (pick x wr bias (i 0) (i 1)).val
/-- Their weights as an array. -/
def weights2 : (⟨2, ![2048, 2]⟩ : Shape).Idx → EReal := fun i => weight x wr bias (i 0) (i 1)

/-- The gate's projection of a token by an expert, -/
def gate (e : Fin 8) (t : Fin 2048) (f : Fin 1024) : EReal := ∑ d : Fin 2048, x (ix2 t d) * wg (ix3 e d f)
/-- the other projection gated by it, -/
def hidden (e : Fin 8) (t : Fin 2048) (f : Fin 1024) : EReal :=
  gate x wg e t f * Ideal.logistic (gate x wg e t f) * gate x wu e t f
/-- and the expert's output. -/
def expert (e : Fin 8) (t d : Fin 2048) : EReal := ∑ f : Fin 1024, hidden x wg wu e t f * wd (ix3 e f d)
/-- The output: the two chosen experts' outputs by their weights. -/
def moe : (⟨2, ![2048, 2048]⟩ : Shape).Idx → EReal := fun i =>
  ∑ k : Fin 2, weight x wr bias (i 0) k * expert x wg wu wd (pick x wr bias (i 0) k) (i 0) (i 1)

end Cert.Moe

end
-- ==== Proof.RouterValue.lean ====
/- What the router writes over the extended reals: the two best experts of every token and their weights. -/
module

public import proofs.«01_k».proof.Proof.RouterRegion
public import proofs.«01_k».proof.Proof.Spec
public import Idealize.ShloMosaic.Lib.Pointwise
public import Idealize.ShloMosaic.Lib.ValueIdx

@[expose] public section

set_option maxRecDepth 16384

noncomputable section

namespace Cert.KernelIdeal.Hand

open Idealize.ShloMosaic Idealize.ShloMosaic.TcCoe
open Cert.KernelIdeal.Gen Cert.Moe

variable (x0 : Vec Ideal S512x2048 .f32) (x1 : Vec Ideal S2048x8 .f32) (x2 : Vec Ideal S1x8 .f32)

/-- A row's score for an expert, from the router's blocks. -/
def scoreB (r : Fin 512) (e : Fin 8) : EReal := Ideal.logistic (∑ d : Fin 2048, x0 (ValueIdx.ix2 r d) * x1 (ValueIdx.ix2 d e))
/-- The score the choice is made by. -/
def choiceB (r : Fin 512) (e : Fin 8) : EReal := scoreB x0 x1 r e + x2 (ValueIdx.ix2 0 e)

/-- The body's scores, by coordinates, -/
theorem pay3_apply (r : Fin 512) (e : Fin 8) : k0_pay3 (F := Ideal) x0 x1 (ValueIdx.ix2 r e) = scoreB x0 x1 r e := by
  unfold k0_pay3 scoreB
  pointwise
  rfl

/-- and those the choice is made by. -/
theorem pay4_apply (r : Fin 512) (e : Fin 8) : k0_pay4 (F := Ideal) x0 x1 x2 (ValueIdx.ix2 r e) = choiceB x0 x1 x2 r e := by
  unfold k0_pay4 choiceB
  rw [← pay3_apply]
  generalize k0_pay3 (F := Ideal) x0 x1 = y
  pointwise
  rfl

/-- The word of minus infinity. -/
theorem word_bot : Ideal.ofBits FTy.f32 4286578688#32 = ⊥ := by
  simp [Ideal.ofBits, Ideal.ieee]

/-- The first marked position of a row, found as the least position that holds the greatest value. -/
theorem least_of_greatest (g : Fin 8 → EReal) (a : Fin 8) (h : ∀ j, g j ≤ g a) (h' : ∀ j, j < a → g j ≠ g a) :
    (Finset.univ : Finset (Fin 8)).fold IntOp.minsi 2147483647#32
      (fun x => if g x = (Finset.univ : Finset (Fin 8)).fold max (Ideal.ofBits FTy.f32 4286578688#32) g then BitVec.ofNat 32 x.val else 8#32) = BitVec.ofNat 32 a.val := by
  classical
  rw [word_bot, greatest8 g a h]
  refine Eq.trans ?_ (least8 (fun j => decide (g j = g a)) a (by simp) fun j hj => by simpa using h' j hj)
  refine congrArg (fun F => Finset.fold IntOp.minsi 2147483647#32 F Finset.univ) (funext fun j => ?_)
  simp only [decide_eq_true_eq]

/-- The first column of picks is the best expert. -/
theorem pay5_apply {r : Fin 512} {a b : Fin 8} (t : Top2 (choiceB x0 x1 x2 r) a b) : k0_pay5 (F := Ideal) x0 x1 x2 (ValueIdx.ix2 r 0) = BitVec.ofNat 32 a.val := by
  have h := pay4_apply x0 x1 x2
  unfold k0_pay5
  generalize k0_pay4 (F := Ideal) x0 x1 x2 = y at h ⊢
  have hy : (fun j => y (ValueIdx.ix2 r j)) = choiceB x0 x1 x2 r := funext (h r)
  pointwise
  refine Eq.trans (congrArg (fun g : Fin 8 → EReal => (Finset.univ : Finset (Fin 8)).fold IntOp.minsi 2147483647#32 (fun x => if g x = (Finset.univ : Finset (Fin 8)).fold max (Ideal.ofBits FTy.f32 4286578688#32) g then BitVec.ofNat 32 x.val else 8#32)) hy) ?_
  exact least_of_greatest _ a t.best fun j hj => (t.first j hj).ne

/-- The comparison of two positions as words is whether they are one. -/
theorem cmp_pos (a x : Fin 8) : IntOp.cmpi CmpIPredicate.eq (BitVec.ofNat 32 x.val) (BitVec.ofNat 32 a.val) = BitVec.ofBool (decide (x = a)) := by
  revert a x
  decide

/-- The second is the second best, where some later expert is above minus infinity. -/
theorem pay6_apply {r : Fin 512} {a b : Fin 8} (t : Top2 (choiceB x0 x1 x2 r) a b) (hf : ∃ j, j ≠ 0 ∧ choiceB x0 x1 x2 r j ≠ ⊥) :
    k0_pay6 (F := Ideal) x0 x1 x2 (ValueIdx.ix2 r 0) = BitVec.ofNat 32 b.val := by
  have h := pay4_apply x0 x1 x2
  have h5 := pay5_apply x0 x1 x2 t
  unfold k0_pay6
  generalize k0_pay5 (F := Ideal) x0 x1 x2 = z at h5 ⊢
  generalize k0_pay4 (F := Ideal) x0 x1 x2 = y at h ⊢
  pointwise
  refine Eq.trans (congrArg (fun g : Fin 8 → EReal => (Finset.univ : Finset (Fin 8)).fold IntOp.minsi 2147483647#32 (fun x => if g x = (Finset.univ : Finset (Fin 8)).fold max (Ideal.ofBits FTy.f32 4286578688#32) g then BitVec.ofNat 32 x.val else 8#32))
    (show (fun x : Fin 8 => Scalar.select (IntOp.cmpi CmpIPredicate.eq (BitVec.ofNat 32 x.val) (z (ValueIdx.ix2 r 0))) (Ideal.ofBits FTy.f32 4286578688#32) (y (ValueIdx.ix2 r x))) = struck (choiceB x0 x1 x2 r) a from funext fun x => ?_)) ?_
  · rw [h5, h, cmp_pos, word_bot, struck]
    by_cases e : x = a <;> simp [e, Scalar.select]
  · exact least_of_greatest _ b t.greatest_struck (t.first_struck hf)

/-- The best expert's score is picked out by a sum over a mask, -/
theorem pay7_apply {r : Fin 512} {a b : Fin 8} (t : Top2 (choiceB x0 x1 x2 r) a b) : k0_pay7 (F := Ideal) x0 x1 x2 (ValueIdx.ix2 r 0) = scoreB x0 x1 r a := by
  have h := pay5_apply x0 x1 x2 t
  have h3 := pay3_apply x0 x1
  unfold k0_pay7
  generalize k0_pay5 (F := Ideal) x0 x1 x2 = y at h ⊢
  generalize k0_pay3 (F := Ideal) x0 x1 = z at h3 ⊢
  pointwise
  refine (Finset.sum_congr rfl fun x _ => ?_).trans (Finset.sum_ite_eq' Finset.univ a (scoreB x0 x1 r)) |>.trans (if_pos (Finset.mem_univ _))
  refine (congrArg₂ (fun u v => Scalar.select (IntOp.cmpi CmpIPredicate.eq (BitVec.ofNat 32 x.val) u) v 0) h (h3 r x)).trans ?_
  rw [cmp_pos]
  by_cases e : x = a <;> simp [e, Scalar.select]

/-- and so is the second's. -/
theorem pay8_apply {r : Fin 512} {a b : Fin 8} (t : Top2 (choiceB x0 x1 x2 r) a b) (hf : ∃ j, j ≠ 0 ∧ choiceB x0 x1 x2 r j ≠ ⊥) :
    k0_pay8 (F := Ideal) x0 x1 x2 (ValueIdx.ix1 r) = scoreB x0 x1 r b := by
  have h := pay6_apply x0 x1 x2 t hf
  have h3 := pay3_apply x0 x1
  unfold k0_pay8
  generalize k0_pay6 (F := Ideal) x0 x1 x2 = y at h ⊢
  generalize k0_pay3 (F := Ideal) x0 x1 = z at h3 ⊢
  pointwise
  refine (Finset.sum_congr rfl fun x _ => ?_).trans (Finset.sum_ite_eq' Finset.univ b (scoreB x0 x1 r)) |>.trans (if_pos (Finset.mem_univ _))
  refine (congrArg₂ (fun u v => Scalar.select (IntOp.cmpi CmpIPredicate.eq (BitVec.ofNat 32 x.val) u) v 0) h (h3 r x)).trans ?_
  rw [cmp_pos]
  by_cases e : x = b <;> simp [e, Scalar.select]

/-- The two weights of a row, as the programs divide them. -/
def weightB (r : Fin 512) (a b e : Fin 8) : EReal := Ideal.div (scoreB x0 x1 r e) (scoreB x0 x1 r a + scoreB x0 x1 r b + tiny)

/-- The blocks are read and written whole, from the origin. -/
theorem off00 : (![0, 0] : Fin 2 → Nat) = fun _ => 0 := by
  decide

/-- The first output block: the best expert and the second. -/
theorem out0_3_apply {r : Fin 512} {a b : Fin 8} (t : Top2 (choiceB x0 x1 x2 r) a b) (hf : ∃ j, j ≠ 0 ∧ choiceB x0 x1 x2 r j ≠ ⊥) (k : Fin 2) :
    out0_3 (F := Ideal) x0 x1 x2 (ValueIdx.ix2 r k) = BitVec.ofNat 32 (![a, b] k).val := by
  have h5 := pay5_apply x0 x1 x2 t
  have h6 := pay6_apply x0 x1 x2 t hf
  unfold out0_3
  rw [View.canon_unit_zero off00, View.ld_unit_zero off00, View.ld_unit_zero off00, View.ld_unit_zero off00]
  unfold k0_pay1
  generalize k0_pay5 (F := Ideal) x0 x1 x2 = y at h5 ⊢
  generalize k0_pay6 (F := Ideal) x0 x1 x2 = z at h6 ⊢
  fin_cases k
  · pointwise
    exact h5
  · pointwise
    exact h6

/-- The second output block: their weights. -/
theorem out0_4_apply {r : Fin 512} {a b : Fin 8} (t : Top2 (choiceB x0 x1 x2 r) a b) (hf : ∃ j, j ≠ 0 ∧ choiceB x0 x1 x2 r j ≠ ⊥) (k : Fin 2) :
    out0_4 (F := Ideal) x0 x1 x2 (ValueIdx.ix2 r k) = weightB x0 x1 r a b (![a, b] k) := by
  have h7 := pay7_apply x0 x1 x2 t
  have h8 := pay8_apply x0 x1 x2 t hf
  unfold out0_4
  rw [View.canon_unit_zero off00, View.ld_unit_zero off00, View.ld_unit_zero off00, View.ld_unit_zero off00]
  unfold k0_pay2
  generalize k0_pay7 (F := Ideal) x0 x1 x2 = y at h7 ⊢
  generalize k0_pay8 (F := Ideal) x0 x1 x2 = z at h8 ⊢
  unfold weightB
  fin_cases k
  · pointwise
    exact congrArg₂ (fun u v => Ideal.div u (u + v + tiny)) h7 h8
  · pointwise
    exact congrArg₂ (fun u v => Ideal.div v (u + v + tiny)) h7 h8

end Cert.KernelIdeal.Hand

end
-- ==== Proof.Weights.lean ====
/- The weights are finite and not negative, and a finite share may be taken out of a sum. -/
module

public import proofs.«01_k».proof.Proof.Spec

@[expose] public section

noncomputable section

namespace Cert.Moe

open Idealize.ShloMosaic Idealize.ShloMosaic.ValueIdx

/-- The logistic function's values are reals from zero to one. -/
theorem logistic_share (x : EReal) : ∃ r : ℝ, 0 ≤ r ∧ Ideal.logistic x = (r : EReal) := by
  induction x using EReal.rec with
  | bot => exact ⟨0, le_rfl, by simp⟩
  | top => exact ⟨1, zero_le_one, by simp⟩
  | coe r => exact ⟨(1 + Real.exp (-r))⁻¹, by positivity, by simp⟩

/-- The small constant is a positive real. -/
theorem tiny_pos : ∃ r : ℝ, 0 < r ∧ tiny = (r : EReal) := by
  unfold tiny
  refine ⟨12379400 * 2 ^ (60 - 127 - 23 : ℤ), by positivity, ?_⟩
  have h : BitVec.extractLsb' 31 1 507307272#32 = 0#1 := by decide
  have h' : 507307272 >>> 23 % 256 = 60 := by decide
  simp [Ideal.ofBits, Ideal.ieee, h, h']

variable (x : (⟨2, ![2048, 2048]⟩ : Shape).Idx → EReal) (wr : (⟨2, ![8, 2048]⟩ : Shape).Idx → EReal) (bias : (⟨1, ![8]⟩ : Shape).Idx → EReal)

/-- A weight is a real that is not negative. -/
theorem weight_real (t : Fin 2048) (k : Fin 2) : ∃ r : ℝ, 0 ≤ r ∧ weight x wr bias t k = (r : EReal) := by
  obtain ⟨s, hs, es⟩ := logistic_share (∑ d : Fin 2048, x (ix2 t d) * wr (ix2 (pick x wr bias t k) d))
  obtain ⟨a, ha, ea⟩ := logistic_share (∑ d : Fin 2048, x (ix2 t d) * wr (ix2 (pick0 x wr bias t) d))
  obtain ⟨b, hb, eb⟩ := logistic_share (∑ d : Fin 2048, x (ix2 t d) * wr (ix2 (pick1 x wr bias t) d))
  obtain ⟨c, hc, ec⟩ := tiny_pos
  refine ⟨s * (a + b + c)⁻¹, by positivity, ?_⟩
  unfold weight score
  rw [es, ea, eb, ec]
  have h : ((a : EReal) + b + c) = ((a + b + c : ℝ) : EReal) := by push_cast; rfl
  rw [h]
  have h0 : a + b + c ≠ 0 := by positivity
  unfold Ideal.div
  rw [if_neg (by exact_mod_cast h0), ← EReal.coe_inv, ← EReal.coe_mul]

/-- Where a later expert's bias is above minus infinity, that expert's choice score is too. -/
theorem choice_later (h : ∃ j : Fin 8, j ≠ 0 ∧ bias (ix1 j) ≠ ⊥) (t : Fin 2048) : ∃ j, j ≠ 0 ∧ choice x wr bias t j ≠ ⊥ := by
  obtain ⟨j, h0, hb⟩ := h
  obtain ⟨r, -, e⟩ := logistic_share (∑ d : Fin 2048, x (ix2 t d) * wr (ix2 j d))
  refine ⟨j, h0, ?_⟩
  unfold choice score
  rw [e, Ne, EReal.add_eq_bot_iff]
  simp [hb]

/-- A real that is not negative may be taken out of a sum. -/
theorem share_sum {n : Nat} {r : ℝ} (h : 0 ≤ r) (f : Fin n → EReal) : ∑ i, (r : EReal) * f i = (r : EReal) * ∑ i, f i := by
  have h' : (0 : EReal) ≤ r := by exact_mod_cast h
  induction n with
  | zero => simp
  | succ n ih => rw [Fin.sum_univ_succ, Fin.sum_univ_succ, ih, EReal.left_distrib_of_nonneg_of_ne_top h' (EReal.coe_ne_top r)]

end Cert.Moe

end
-- ==== Proof.RouterArrays.lean ====
/- The router's two result arrays over the extended reals: the chosen experts and their weights. -/
module

public import proofs.«01_k».proof.Proof.RouterValue
public import proofs.«01_k».proof.Proof.Weights
public import proofs.«01_k».proof.Proof.Run
public import Idealize.ShloMosaic.Lib.Pipeline.ValueKit
public import Idealize.ShloMosaic.Lib.StableHlo.RunRead

@[expose] public section

set_option maxRecDepth 16384

noncomputable section

namespace Cert.KernelIdeal.Hand

open Idealize.ShloMosaic Idealize.ShloMosaic.TcCoe
open Idealize.ShloMosaic.Pipeline (Dat Cfg Window)
open Cert.KernelIdeal.Gen Cert.Moe

/-- The windows' blocks by their grid point: the rows move with the point, the rest is at the origin. -/
theorem index0 (t : Fin cfg0.N) :
    (cfg0.win 0).index t (0 : Fin 2) = t.val ∧ (cfg0.win 0).index t (1 : Fin 2) = 0
    ∧ (cfg0.win 1).index t (0 : Fin 2) = 0 ∧ (cfg0.win 1).index t (1 : Fin 2) = 0
    ∧ (cfg0.win 2).index t (0 : Fin 2) = 0 ∧ (cfg0.win 2).index t (1 : Fin 2) = 0
    ∧ (cfg0.win 3).index t (0 : Fin 2) = t.val ∧ (cfg0.win 3).index t (1 : Fin 2) = 0
    ∧ (cfg0.win 4).index t (0 : Fin 2) = t.val ∧ (cfg0.win 4).index t (1 : Fin 2) = 0 := by
  revert t
  decide +kernel

/-- The router runs over four blocks of tokens. -/
theorem points0 : cfg0.N = 4 := by decide +kernel

/-- Row `r` of the block of point `t`. -/
def row0 (t : Fin cfg0.N) (r : Fin 512) : Fin 2048 := ⟨t.val * 512 + r.val, by have := t.isLt.trans_eq points0; omega⟩

/-- A block of tokens lies at its rows of the tokens' array. -/
theorem emb0_0 (t : Fin cfg0.N) (r : Fin 512) (d : Fin 2048) : ((cfg0.win 0).blk t).view.emb (ValueIdx.ix2 r d) = ValueIdx.ix2 (row0 t r) d := by
  obtain ⟨e0, e1, -⟩ := index0 t
  funext a; apply Fin.ext
  match a with
  | ⟨0, _⟩ => exact ((cfg0.win 0).rect_emb_val t (ValueIdx.ix2 r d) 0).trans (by rw [e0]; rfl)
  | ⟨1, _⟩ => exact ((cfg0.win 0).rect_emb_val t (ValueIdx.ix2 r d) 1).trans (by rw [e1]; exact (congrArg (· + d.val) (Nat.zero_mul _)).trans (Nat.zero_add _))
/-- The router's weights are one block, the whole array, -/
theorem emb0_1 (t : Fin cfg0.N) (j : S2048x8.Idx) : ((cfg0.win 1).blk t).view.emb j = j := by
  obtain ⟨-, -, e0, e1, -⟩ := index0 t
  funext a; apply Fin.ext
  match a with
  | ⟨0, _⟩ => exact (cfg0.win 1).rect_emb_val_of_index_zero t 0 e0 j
  | ⟨1, _⟩ => exact (cfg0.win 1).rect_emb_val_of_index_zero t 1 e1 j
/-- and so are its biases. -/
theorem emb0_2 (t : Fin cfg0.N) (j : S1x8.Idx) : ((cfg0.win 2).blk t).view.emb j = j := by
  obtain ⟨-, -, -, -, e0, e1, -⟩ := index0 t
  funext a; apply Fin.ext
  match a with
  | ⟨0, _⟩ => exact (cfg0.win 2).rect_emb_val_of_index_zero t 0 e0 j
  | ⟨1, _⟩ => exact (cfg0.win 2).rect_emb_val_of_index_zero t 1 e1 j
/-- A block of picks lies at its rows of the picks' array, -/
theorem emb0_3 (t : Fin cfg0.N) (r : Fin 512) (d : Fin 2) : ((cfg0.win 3).blk t).view.emb (ValueIdx.ix2 r d) = ValueIdx.ix2 (row0 t r) d := by
  obtain ⟨-, -, -, -, -, -, e0, e1, -⟩ := index0 t
  funext a; apply Fin.ext
  match a with
  | ⟨0, _⟩ => exact ((cfg0.win 3).rect_emb_val t (ValueIdx.ix2 r d) 0).trans (by rw [e0]; rfl)
  | ⟨1, _⟩ => exact ((cfg0.win 3).rect_emb_val t (ValueIdx.ix2 r d) 1).trans (by rw [e1]; exact (congrArg (· + d.val) (Nat.zero_mul _)).trans (Nat.zero_add _))
/-- and a block of weights at its rows of theirs. -/
theorem emb0_4 (t : Fin cfg0.N) (r : Fin 512) (d : Fin 2) : ((cfg0.win 4).blk t).view.emb (ValueIdx.ix2 r d) = ValueIdx.ix2 (row0 t r) d := by
  obtain ⟨-, -, -, -, -, -, -, -, e0, e1⟩ := index0 t
  funext a; apply Fin.ext
  match a with
  | ⟨0, _⟩ => exact ((cfg0.win 4).rect_emb_val t (ValueIdx.ix2 r d) 0).trans (by rw [e0]; rfl)
  | ⟨1, _⟩ => exact ((cfg0.win 4).rect_emb_val t (ValueIdx.ix2 r d) 1).trans (by rw [e1]; exact (congrArg (· + d.val) (Nat.zero_mul _)).trans (Nat.zero_add _))

variable (m : (ℓ : Loc nD τ sig) → Buf (Elt Ideal) ℓ) (c : Dev nD)

/-- The tokens as given, -/
abbrev argX : Vec Ideal S2048x2048 .f32 := m ((c.tc : Thread nD τ).loc main_arg0)
/-- the router's weights -/
abbrev argR : Vec Ideal S8x2048 .f32 := m ((c.tc : Thread nD τ).loc main_arg1)
/-- and the biases. -/
abbrev argB : Vec Ideal S8 .f32 := m ((c.tc : Thread nD τ).loc main_arg2)

/-- The router's weights come in transposed. -/
theorem V1_v0 : V1 m c (Proc.devRef .tc main_v0) = transpose S2048x8 [1, 0] (argR m c) transposes_S8x2048_S2048x8_1_0 := by
  show StableHlo.after hostOps0 (V0 m c) _ = _
  after_reads_simp
/-- The biases come in as one row. -/
theorem V1_v1 (e : Fin 8) : V1 m c (Proc.devRef .tc main_v1) (ValueIdx.ix2 0 e) = argB m c (ValueIdx.ix1 e) := by
  have h : V1 m c (Proc.devRef .tc main_v1) = shapeCast (s := S8) (α := EReal) S1x8 (argB m c) shapeCasts_S8_S1x8 := by
    show StableHlo.after hostOps0 (V0 m c) _ = _
    after_reads_simp
    rfl
  rw [h]
  generalize argB m c = b
  pointwise
  rfl
/-- The tokens come in as given. -/
theorem V1_arg0 : V1 m c (Proc.devRef .tc main_arg0) = argX m c := V1_of m c main_arg0 (by decide)

/-- The block of tokens the router reads at a point, by coordinates, -/
theorem blk0_0 (t : Fin cfg0.N) (r : Fin 512) (d : Fin 2048) : blk0 (V1 m) c 0 t (ValueIdx.ix2 r d) = argX m c (ValueIdx.ix2 (row0 t r) d) := by
  show V1 m c (Proc.devRef .tc main_arg0) (((cfg0.win 0).blk t).view.emb (ValueIdx.ix2 r d)) = _
  rw [emb0_0, V1_arg0]
/-- the router's weights, read transposed, -/
theorem blk0_1 (t : Fin cfg0.N) (d : Fin 2048) (e : Fin 8) : blk0 (V1 m) c 1 t (ValueIdx.ix2 d e) = argR m c (ValueIdx.ix2 e d) := by
  show V1 m c (Proc.devRef .tc main_v0) (((cfg0.win 1).blk t).view.emb (ValueIdx.ix2 d e)) = _
  rw [emb0_1, V1_v0]
  pointwise
  rfl
/-- and the biases. -/
theorem blk0_2 (t : Fin cfg0.N) (e : Fin 8) : blk0 (V1 m) c 2 t (ValueIdx.ix2 0 e) = argB m c (ValueIdx.ix1 e) := by
  show V1 m c (Proc.devRef .tc main_v1) (((cfg0.win 2).blk t).view.emb (ValueIdx.ix2 0 e)) = _
  rw [emb0_2, V1_v1]

/-- The scores made from the blocks are the scores of the block's tokens, -/
theorem scoreB_eq (t : Fin cfg0.N) (r : Fin 512) : scoreB (blk0 (V1 m) c 0 t) (blk0 (V1 m) c 1 t) r = score (argX m c) (argR m c) (row0 t r) := by
  funext e
  unfold scoreB score
  simp only [blk0_0, blk0_1]
/-- and so are the scores the choice is made by. -/
theorem choiceB_eq (t : Fin cfg0.N) (r : Fin 512) : choiceB (blk0 (V1 m) c 0 t) (blk0 (V1 m) c 1 t) (blk0 (V1 m) c 2 t) r = choice (argX m c) (argR m c) (argB m c) (row0 t r) := by
  funext e
  unfold choiceB choice
  rw [scoreB_eq, blk0_2]

/-- Some expert after the first can be chosen: its bias is above minus infinity. -/
def Later : Prop := ∃ j : Fin 8, j ≠ 0 ∧ argB m c (ValueIdx.ix1 j) ≠ ⊥

/-- A score is a share of one: never minus infinity. -/
theorem later_choice (h : Later m c) (t : Fin 2048) : ∃ j, j ≠ 0 ∧ choice (argX m c) (argR m c) (argB m c) t j ≠ ⊥ :=
  choice_later _ _ _ h t

/-- The router's first array: the chosen experts. -/
theorem V2_idx (h : Later m c) : V2 m (outs m) c (Proc.devRef .tc main_v2_0) = picks2 (argX m c) (argR m c) (argB m c) := by
  rw [V2_eq]
  refine (Pipeline.afterRegion_arr (dat0 (V1 m) c) (V1 m c) (launch0 (F := Ideal)).win.arr_inj 3).trans ?_
  refine (dat0 (V1 m) c).arrAt_eq_of_covers 3 _ (by decide +kernel) fun t _ y => ?_
  obtain ⟨r, k, rfl⟩ : ∃ (r : Fin 512) (k : Fin 2), y = ValueIdx.ix2 r k := ⟨y 0, y 1, ValueIdx.eq_ix2 y⟩
  rw [emb0_3, cast_eq, after0_3]
  have hp := picks (argX m c) (argR m c) (argB m c) (row0 t r)
  have hf := later_choice m c h (row0 t r)
  rw [← choiceB_eq] at hp hf
  exact out0_3_apply _ _ _ hp hf k

/-- The router's second array: their weights. -/
theorem V2_weights (h : Later m c) : V2 m (outs m) c (Proc.devRef .tc main_v2_1) = weights2 (argX m c) (argR m c) (argB m c) := by
  rw [V2_eq]
  refine (Pipeline.afterRegion_arr (dat0 (V1 m) c) (V1 m c) (launch0 (F := Ideal)).win.arr_inj 4).trans ?_
  refine (dat0 (V1 m) c).arrAt_eq_of_covers 4 _ (by decide +kernel) fun t _ y => ?_
  obtain ⟨r, k, rfl⟩ : ∃ (r : Fin 512) (k : Fin 2), y = ValueIdx.ix2 r k := ⟨y 0, y 1, ValueIdx.eq_ix2 y⟩
  rw [emb0_4, cast_eq, after0_4]
  have hp := picks (argX m c) (argR m c) (argB m c) (row0 t r)
  have hf := later_choice m c h (row0 t r)
  rw [← choiceB_eq] at hp hf
  refine (out0_4_apply _ _ _ hp hf k).trans ?_
  unfold weightB
  rw [scoreB_eq]
  rfl

end Cert.KernelIdeal.Hand

end
-- ==== Proof.Model.lean ====
/- The arithmetic of sorting assignments by expert into whole tiles, over the naturals. -/
module

public import Mathlib.Data.Nat.Count
public import Mathlib.Algebra.BigOperators.Fin
public import Mathlib.Algebra.BigOperators.Intervals
public import Mathlib.Tactic.IntervalCases

@[expose] public section

namespace Cert.Moe.Model

variable (e : ℕ → ℕ)

/-- How many of the 4096 assignments go to an expert, -/
def cnt (x : ℕ) : ℕ := Nat.count (fun j => e j = x) 4096
/-- that count rounded up to whole tiles of 256 rows, -/
def pad (n : ℕ) : ℕ := (n + 255) / 256 * 256
/-- where the expert's rows begin, -/
def start (x : ℕ) : ℕ := ((List.range x).map fun y => pad (cnt e y)).sum
/-- an assignment's place among its expert's, -/
def rank (j : ℕ) : ℕ := Nat.count (fun i => e i = e j) j
/-- and its row. -/
def slot (j : ℕ) : ℕ := start e (e j) + rank e j

/-- An expert's rows begin where the padded rows of the one before end. -/
theorem start_succ (x : ℕ) : start e (x + 1) = start e x + pad (cnt e x) := by
  simp [start, List.range_succ]

/-- A later expert begins no earlier. -/
theorem start_mono {x y : ℕ} (h : x ≤ y) : start e x ≤ start e y := by
  induction h with
  | refl => exact le_rfl
  | step _ ih => exact ih.trans (by rw [Nat.succ_eq_add_one, start_succ]; omega)

/-- Every expert's rows begin with a tile. -/
theorem start_tile (x : ℕ) : ∃ k, start e x = 256 * k := by
  induction x with
  | zero => exact ⟨0, rfl⟩
  | succ x ih =>
    obtain ⟨k, hk⟩ := ih
    exact ⟨k + (cnt e x + 255) / 256, by rw [start_succ, hk, pad]; omega⟩

/-- Padding takes nothing away. -/
theorem le_pad (n : ℕ) : n ≤ pad n := by unfold pad; omega

/-- The rank of an assignment is below the number of assignments of its expert. -/
theorem rank_lt {j : ℕ} (hj : j < 4096) : rank e j < cnt e (e j) :=
  Nat.count_strict_mono (p := fun i => e i = e j) rfl hj

/-- An assignment's row is before the end of its expert's rows. -/
theorem slot_lt {j : ℕ} (hj : j < 4096) : slot e j < start e (e j + 1) := by
  have h := rank_lt e hj
  have h' := le_pad (cnt e (e j))
  rw [start_succ]
  unfold slot
  omega

/-- Different assignments take different rows. -/
theorem slot_inj {i j : ℕ} (hi : i < 4096) (hj : j < 4096) (h : slot e i = slot e j) : i = j := by
  have hlt : ∀ {i j : ℕ}, i < 4096 → slot e i = slot e j → ¬ e i < e j := fun {i j} hi h hlt => by
    have h1 := slot_lt e hi
    have h2 := start_mono e (show e i + 1 ≤ e j by omega)
    unfold slot at h h1
    omega
  have he : e i = e j := by
    have h1 := hlt hi h
    have h2 := hlt hj h.symm
    omega
  unfold slot rank at h
  rw [he] at h
  have hc : Nat.count (fun k => e k = e j) i = Nat.count (fun k => e k = e j) j := by omega
  exact Nat.count_injective (p := fun k => e k = e j) he rfl hc

variable (h8 : ∀ j, j < 4096 → e j < 8)

include h8 in
/-- The counts of the eight experts add up to the number of assignments. -/
theorem sum_cnt : cnt e 0 + cnt e 1 + cnt e 2 + cnt e 3 + cnt e 4 + cnt e 5 + cnt e 6 + cnt e 7 = 4096 := by
  have h : ∀ M, M ≤ 4096 → Nat.count (fun j => e j = 0) M + Nat.count (fun j => e j = 1) M + Nat.count (fun j => e j = 2) M + Nat.count (fun j => e j = 3) M
      + Nat.count (fun j => e j = 4) M + Nat.count (fun j => e j = 5) M + Nat.count (fun j => e j = 6) M + Nat.count (fun j => e j = 7) M = M := by
    intro M
    induction M with
    | zero => intro _; simp
    | succ M ih =>
      intro hM
      have ih := ih (by omega)
      have h := h8 M (by omega)
      simp only [Nat.count_succ]
      generalize e M = q at h
      interval_cases q <;> simp <;> omega
  exact h 4096 le_rfl

include h8 in
/-- All the rows are among the 5888. -/
theorem start_le : start e 8 ≤ 5888 := by
  have h := sum_cnt e h8
  simp only [start, List.range_succ, List.range_zero, List.nil_append, List.map_append, List.map_cons, List.map_nil, List.sum_append, List.sum_cons, List.sum_nil, pad]
  omega

include h8 in
/-- Every assignment has a row below 5888. -/
theorem slot_lt_rows {j : ℕ} (hj : j < 4096) : slot e j < 5888 := by
  have h1 := slot_lt e hj
  have h2 := start_mono e (show e j + 1 ≤ 8 by have := h8 j hj; omega)
  have h3 := start_le e h8
  omega

include h8 in
/-- The tile of an assignment's row is its expert's: as many experts end by its first row as come before that expert. -/
theorem tile_expert {j : ℕ} (hj : j < 4096) : Nat.count (fun x => start e (x + 1) ≤ slot e j / 256 * 256) 8 = e j := by
  have hs := slot_lt e hj
  obtain ⟨k, hk⟩ := start_tile e (e j)
  have h0 : start e (e j) ≤ slot e j := by unfold slot; omega
  have h : ∀ x, x < 8 → (start e (x + 1) ≤ slot e j / 256 * 256 ↔ x < e j) := fun x _ => by
    constructor
    · intro hx
      by_contra hn
      have := start_mono e (show e j + 1 ≤ x + 1 by omega)
      omega
    · intro hx
      have := start_mono e (show x + 1 ≤ e j by omega)
      omega
  have he := h8 j hj
  have hc : ∀ M, M ≤ 8 → Nat.count (fun x => start e (x + 1) ≤ slot e j / 256 * 256) M = min M (e j) := by
    intro M
    induction M with
    | zero => intro _; simp
    | succ M ih =>
      intro hM
      rw [Nat.count_succ, ih (by omega)]
      by_cases hq : M < e j
      · rw [if_pos ((h M (by omega)).2 hq)]; omega
      · rw [if_neg (fun q => hq ((h M (by omega)).1 q))]; omega
  rw [hc 8 le_rfl]
  omega

include h8 in
/-- That tile is an active one. -/
theorem tile_active {j : ℕ} (hj : j < 4096) : slot e j / 256 * 256 < start e 8 := by
  have h1 := slot_lt e hj
  have h2 := start_mono e (show e j + 1 ≤ 8 by have := h8 j hj; omega)
  omega

/-- The running count at an assignment, for its own expert, is one more than its rank. -/
theorem count_succ_self (j : ℕ) : Nat.count (fun i => e i = e j) (j + 1) = rank e j + 1 := by
  rw [Nat.count_succ, if_pos rfl]; rfl

end Cert.Moe.Model

end
-- ==== Proof.Routing.lean ====
/- The host's routing words are the model's numbers. -/
module

public import proofs.«01_k».proof.Proof.Host
public import proofs.«01_k».proof.Proof.Model
public import Idealize.ShloMosaic.Lib.Pointwise
public import Idealize.ShloMosaic.Lib.Routing.OpsSearch
public import Idealize.ShloMosaic.Lib.Routing.OpsSet

@[expose] public section

set_option maxRecDepth 16384

noncomputable section

namespace Cert.KernelIdeal.Hand

open Idealize.ShloMosaic Idealize.ShloMosaic.TcCoe
open Cert.KernelIdeal.Gen Cert.Moe.Model

/-- A fold of word addition over words that hold numbers holds their sum. -/
theorem fold_words {n : Nat} (f : Fin n → Nat) (s : Finset (Fin n)) :
    s.fold IntOp.addi 0#32 (fun k => BitVec.ofNat 32 (f k)) = BitVec.ofNat 32 (∑ k ∈ s, f k) := by
  induction s using Finset.induction_on with
  | empty => rfl
  | insert a s ha ih => rw [Finset.fold_insert ha, Finset.sum_insert ha, ih]; exact (BitVec.ofNat_add ..).symm

/-- The number of marks among the first. -/
theorem sum_marks (P : ℕ → Prop) [DecidablePred P] (n : ℕ) : ∑ k : Fin n, (if P k.val then 1 else 0) = Nat.count P n := by
  rw [Nat.count_eq_card_filter_range, Finset.card_filter, Finset.sum_range]

/-- A comparison of two small numbers' words is the numbers' own. -/
theorem mark (a b : ℕ) (ha : a < 8) (hb : b < 8) :
    BitVec.setWidth 32 (IntOp.cmpi CmpIPredicate.eq (BitVec.ofNat 32 a) (BitVec.ofNat 32 b)) = BitVec.ofNat 32 (if a = b then 1 else 0) := by
  have h : ∀ a b : Fin 8, BitVec.setWidth 32 (IntOp.cmpi CmpIPredicate.eq (BitVec.ofNat 32 a.val) (BitVec.ofNat 32 b.val)) = BitVec.ofNat 32 (if a.val = b.val then 1 else 0) := by decide
  exact h ⟨a, ha⟩ ⟨b, hb⟩

section
variable (e : ℕ → ℕ) (h8 : ∀ j, j < 4096 → e j < 8) (E : IVec S4096 32) (hE : ∀ j : Fin 4096, E (ValueIdx.ix1 j) = BitVec.ofNat 32 (e j.val))

include h8 hE in
/-- The mark of an assignment and an expert is one where they belong together and zero elsewhere. -/
theorem hot_apply (j : Fin 4096) (x : Fin 8) : hot E (ValueIdx.ix2 j x) = BitVec.ofNat 32 (if e j.val = x.val then 1 else 0) := by
  have h := hE j
  unfold hot
  pointwise
  show BitVec.setWidth 32 (IntOp.cmpi CmpIPredicate.eq (E (ValueIdx.ix1 j)) (BitVec.ofNat 32 x.val)) = _
  rw [h]
  exact mark _ _ (h8 _ j.isLt) x.isLt

include h8 hE in
/-- An expert's count is the number of its assignments. -/
theorem counts_apply (x : Fin 8) : counts (hot E) (ValueIdx.ix1 x) = BitVec.ofNat 32 (cnt e x.val) := by
  have h := fun j => hot_apply e h8 E hE j x
  unfold counts
  generalize hot E = H at h ⊢
  pointwise
  show Finset.fold IntOp.addi (0#32) (fun k => H (ValueIdx.ix2 k x)) Finset.univ = _
  simp only [h]
  rw [fold_words, sum_marks (fun j => e j = x.val)]
  rfl
end

/-- The count rounded up to whole tiles, by its word. -/
def padWord (v : BitVec 32) : BitVec 32 :=
  let u := IntOp.subi (IntOp.addi v 256#32) 1#32
  IntOp.muli
      (Scalar.select
        (IntOp.andi
          (IntOp.cmpi CmpIPredicate.ne (if u = 0 then (0 : BitVec 32) else if u.msb = true then -1 else 1) (if 256#32 = 0 then (0 : BitVec 32) else if (256#32).msb = true then -1 else 1))
          (IntOp.cmpi CmpIPredicate.ne (IntOp.remsi ArithUnit.host u 256#32) 0#32))
        (IntOp.subi (IntOp.divsi ArithUnit.host u 256#32) 1#32)
        (IntOp.divsi ArithUnit.host u 256#32))
      256#32

/-- The word padded up to a multiple of 256 is the number padded so. -/
theorem padWord_eq (n : ℕ) (hn : n ≤ 4096) : padWord (BitVec.ofNat 32 n) = BitVec.ofNat 32 (pad n) := by
  have h : ∀ n : Fin 4097, padWord (BitVec.ofNat 32 n.val) = BitVec.ofNat 32 (pad n.val) := by decide +kernel
  exact h ⟨n, by omega⟩

/-- So it is in the array of padded counts, for a count that is small enough. -/
theorem padded_word (n : ℕ) (C : IVec S8 32) (x : Fin 8) (hn : n ≤ 4096) (h : C (ValueIdx.ix1 x) = BitVec.ofNat 32 n) : padded C (ValueIdx.ix1 x) = BitVec.ofNat 32 (pad n) := by
  unfold padded floorDiv
  pointwise
  rw [h]
  exact padWord_eq n hn

/-- A sum over the experts of the ranks by the marks is the rank at the assignment's own expert. -/
theorem ranksAt_apply (R H : IVec S4096x8 32) (j : Fin 4096) (rk y : ℕ) (hy : y < 8) (hR : R (ValueIdx.ix2 j ⟨y, hy⟩) = BitVec.ofNat 32 (rk + 1))
    (hH : ∀ x : Fin 8, H (ValueIdx.ix2 j x) = BitVec.ofNat 32 (if y = x.val then 1 else 0)) : ranksAt R H (ValueIdx.ix1 j) = BitVec.ofNat 32 rk := by
  unfold ranksAt
  pointwise
  have ht : ∀ x : Fin 8, IntOp.muli (IntOp.subi (R (ValueIdx.ix2 j x)) 1#32) (H (ValueIdx.ix2 j x)) = BitVec.ofNat 32 (if y = x.val then rk else 0) := fun x => by
    rw [hH]
    by_cases hx : y = x.val
    · obtain rfl : x = ⟨y, hy⟩ := Fin.ext hx.symm
      rw [hR, if_pos rfl, if_pos rfl]
      show (BitVec.ofNat 32 (rk + 1) - 1#32) * 1#32 = _
      rw [BitVec.mul_one, BitVec.ofNat_add, BitVec.add_sub_cancel]
    · rw [if_neg hx, if_neg hx]
      exact BitVec.mul_zero
  show Finset.fold IntOp.addi (0#32) (fun x => IntOp.muli (IntOp.subi (R (ValueIdx.ix2 j x)) 1#32) (H (ValueIdx.ix2 j x))) Finset.univ = _
  simp only [ht]
  rw [fold_words]
  congr 1
  rw [Finset.sum_eq_single (⟨y, hy⟩ : Fin 8) (fun b _ hb => if_neg fun h => hb (Fin.ext h.symm)) (fun h => absurd (Finset.mem_univ _) h), if_pos rfl]

/-- The running sum down a column. -/
theorem running_apply (H : IVec S4096x8 32) (x : Fin 8) (f : ℕ → ℕ) (hf : ∀ i : Fin 4096, H (ValueIdx.ix2 i x) = BitVec.ofNat 32 (f i.val)) (j : Fin 4096) :
    running H (ValueIdx.ix2 j x) = BitVec.ofNat 32 ((List.range (j.val + 1)).map f).sum := by
  have hn : (⟨2, ![4096, 1]⟩ : Shape).numel = 4096 := by decide
  have hs : ∀ n : Fin (⟨2, ![4096, 1]⟩ : Shape).numel, (⟨2, ![4096, 1]⟩ : Shape).rowMajor.symm n = ValueIdx.ix2 (n.cast hn) (0 : Fin 1) := fun n =>
    ((⟨2, ![4096, 1]⟩ : Shape).rowMajor.symm_apply_eq).2 (Fin.ext (by
      rw [Shape.rowMajor_val_two]
      show n.val = n.val * 1 + 0
      omega))
  have hj := j.isLt
  have hx := x.isLt
  unfold running Host.reduceWindow
  refine (Routing.foldl_addi_ofNat _ _ (fun n => if 4095 ≤ j.val + n.val then f (j.val + n.val - 4095) else 0) (fun n _ => ?_) _ 0 ?_).trans ?_
  · have hw0 : ((⟨2, ![4096, 1]⟩ : Shape).rowMajor.symm n 0).val = n.val := by rw [hs]; rfl
    have hw1 : ((⟨2, ![4096, 1]⟩ : Shape).rowMajor.symm n 1).val = 0 := by rw [hs]; rfl
    have hn' : n.val < 4096 := (n.cast hn).isLt
    dsimp only
    split
    · next hin =>
      have h0 := hin 0
      change 4095 ≤ j.val * 1 + ((⟨2, ![4096, 1]⟩ : Shape).rowMajor.symm n 0).val
        ∧ j.val * 1 + ((⟨2, ![4096, 1]⟩ : Shape).rowMajor.symm n 0).val - 4095 < 4096 at h0
      rw [hw0] at h0
      rw [if_pos (by omega)]
      refine (congrArg H (funext fun a => Fin.ext ?_)).trans (hf ⟨j.val + n.val - 4095, by omega⟩)
      match a with
      | ⟨0, _⟩ =>
        show j.val * 1 + ((⟨2, ![4096, 1]⟩ : Shape).rowMajor.symm n 0).val - 4095 = j.val + n.val - 4095
        rw [hw0, Nat.mul_one]
      | ⟨1, _⟩ =>
        show x.val * 1 + ((⟨2, ![4096, 1]⟩ : Shape).rowMajor.symm n 1).val - 0 = x.val
        rw [hw1]; omega
    · next hin =>
      rw [if_neg fun hle => hin fun a => by
        match a with
        | ⟨0, _⟩ =>
          show 4095 ≤ j.val * 1 + ((⟨2, ![4096, 1]⟩ : Shape).rowMajor.symm n 0).val
            ∧ j.val * 1 + ((⟨2, ![4096, 1]⟩ : Shape).rowMajor.symm n 0).val - 4095 < 4096
          rw [hw0]
          omega
        | ⟨1, _⟩ =>
          show 0 ≤ x.val * 1 + ((⟨2, ![4096, 1]⟩ : Shape).rowMajor.symm n 1).val ∧ x.val * 1 + ((⟨2, ![4096, 1]⟩ : Shape).rowMajor.symm n 1).val - 0 < 8
          rw [hw1]
          omega]
      rfl
  · rfl
  · rw [Nat.zero_add, Routing.map_finRange_val _ (fun w => if 4095 ≤ j.val + w then f (j.val + w - 4095) else 0)]
    exact congrArg (BitVec.ofNat 32) ((congrArg (fun M => ((List.range M).map fun w => if 4095 ≤ j.val + w then f (j.val + w - 4095) else 0).sum) hn).trans
      (Routing.sum_window f 4095 j.val (by omega)))

/-- The sum of the marks of the positions below `n` counts those that are marked. -/
theorem sum_marks_list (P : ℕ → Prop) [DecidablePred P] (n : ℕ) : ((List.range n).map fun k => if P k then 1 else 0).sum = Nat.count P n := by
  induction n with
  | zero => rfl
  | succ n ih => rw [List.range_succ, List.map_append, List.sum_append, ih, Nat.count_succ]; simp

section
variable (e : ℕ → ℕ) (h8 : ∀ j, j < 4096 → e j < 8) (E : IVec S4096 32) (hE : ∀ j : Fin 4096, E (ValueIdx.ix1 j) = BitVec.ofNat 32 (e j.val))

include h8 hE in
/-- An assignment's rank is the number of earlier assignments to its expert. -/
theorem ranks_apply (j : Fin 4096) : ranks (hot E) (ValueIdx.ix1 j) = BitVec.ofNat 32 (rank e j.val) := by
  have h := hot_apply e h8 E hE
  unfold ranks
  refine ranksAt_apply _ _ j (rank e j.val) (e j.val) (h8 _ j.isLt) ?_ (fun x => h j x)
  rw [running_apply (hot E) ⟨e j.val, h8 _ j.isLt⟩ (fun i => if e i = e j.val then 1 else 0) (fun i => h i _) j, sum_marks_list, count_succ_self]

/-- No expert has more assignments than there are. -/
theorem cnt_le (x : ℕ) : cnt e x ≤ 4096 := Nat.count_le ..

include h8 hE in
/-- The padded counts, by coordinates, -/
theorem padded_apply (x : Fin 8) : padded (counts (hot E)) (ValueIdx.ix1 x) = BitVec.ofNat 32 (pad (cnt e x.val)) :=
  padded_word _ _ x (cnt_le e _) (counts_apply e h8 E hE x)

include h8 hE in
/-- where each expert's padded rows end, -/
theorem ends_apply (x : Fin 8) : ends (padded (counts (hot E))) (ValueIdx.ix1 x) = BitVec.ofNat 32 (start e (x.val + 1)) :=
  Routing.cumsum1 (N := 8) (Nm1 := 7) rfl _ (fun y => pad (cnt e y)) (padded_apply e h8 E hE) _ rfl _ _ x

include h8 hE in
/-- and where they begin. -/
theorem starts_apply (x : Fin 8) : subi (ends (padded (counts (hot E)))) (padded (counts (hot E))) (ValueIdx.ix1 x) = BitVec.ofNat 32 (start e x.val) := by
  show ends (padded (counts (hot E))) (ValueIdx.ix1 x) - padded (counts (hot E)) (ValueIdx.ix1 x) = _
  rw [ends_apply e h8 E hE, padded_apply e h8 E hE, start_succ, BitVec.ofNat_add, BitVec.add_sub_cancel]

/-- The wrap leaves a small number's word as it is. -/
theorem wrapped_apply {n : ℕ} (hb : S_.BroadcastsInDim (⟨1, ![n]⟩ : Shape) ![]) (N : BitVec 32) (x : IVec ⟨1, ![n]⟩ 32) (j : Fin n) (k : ℕ) (hk : k < 2 ^ 31) (h : x (ValueIdx.ix1 j) = BitVec.ofNat 32 k) :
    wrapped hb N x (ValueIdx.ix1 j) = BitVec.ofNat 32 k := by
  refine (Routing.wrap_of_lt (w := 32) (x (ValueIdx.ix1 j)) _ ?_).trans h
  rw [h, BitVec.toNat_ofNat]
  exact (Nat.mod_le _ _).trans_lt hk

include h8 hE in
/-- The rows the words name are the model's. -/
theorem slots_apply (j : Fin 4096) : slots (subi (ends (padded (counts (hot E)))) (padded (counts (hot E)))) E (ranks (hot E)) (ValueIdx.ix1 j) = BitVec.ofNat 32 (slot e j.val) := by
  have h := h8 j.val j.isLt
  have hs := starts_apply e h8 E hE ⟨e j.val, h⟩
  have hr := ranks_apply e h8 E hE j
  unfold slots
  generalize subi (ends (padded (counts (hot E)))) (padded (counts (hot E))) = S at hs ⊢
  generalize ranks (hot E) = R at hr ⊢
  show Host.gather gather_S8_S4096x1_S4096_n_0_n_n_0_1_1 S _ (ValueIdx.ix1 j) + R (ValueIdx.ix1 j) = _
  rw [hr, Routing.take_ap gather_S8_S4096x1_S4096_n_0_n_n_0_1_1 rfl rfl rfl rfl S _ j (k := e j.val) h (by omega) (by
    rw [Routing.bcCol]
    exact wrapped_apply _ _ E j _ (by omega) (hE j)), hs]
  exact (BitVec.ofNat_add ..).symm

end

end Cert.KernelIdeal.Hand

end
-- ==== Proof.Rows.lean ====
/- Where the host's sorted arrays hold each assignment: its row, its weight, its token, its tile's expert. -/
module

public import proofs.«01_k».proof.Proof.Routing
public import Idealize.ShloMosaic.Lib.WordCmp

@[expose] public section

noncomputable section

namespace Cert.KernelIdeal.Hand

open Idealize.ShloMosaic Cert.KernelIdeal.Gen Cert.Moe.Model

/-- A token's scatter lands at the row its word names. -/
theorem token_lands (idx : IVec S4096x1 32) (j : Fin 4096) (x : Fin 5888) :
    scatter_S5888_S4096x1_S4096_n_0_0_1.resultIdx? (ValueIdx.ix1 j) idx = some (ValueIdx.ix1 x) ↔ (idx (ValueIdx.ix2 j 0)).toInt = (x.val : Int) := by
  have hw : scatter_S5888_S4096x1_S4096_n_0_0_1.window (ValueIdx.ix1 j) 0 = 0 := rfl
  have hs : scatter_S5888_S4096x1_S4096_n_0_0_1.start (ValueIdx.ix1 j) idx 0 = (idx (ValueIdx.ix2 j 0)).toInt := by
    show (idx _).toInt = _
    congr 2
    funext b
    have hb : b = 0 ∨ b = 1 := by revert b; decide
    rcases hb with rfl | rfl <;> rfl
  rw [Routing.resultIdx?_ix1, hw, hs]
  simp

/-- A weight's scatter lands at the row and column its two words name. -/
theorem weight_lands (idx : IVec S4096x2 32) (j : Fin 4096) (x : Fin 5888) (y : Fin 1) :
    scatter_S5888x1_S4096x2_S4096_n_01_01_1.resultIdx? (ValueIdx.ix1 j) idx = some (ValueIdx.ix2 x y) ↔
      (idx (ValueIdx.ix2 j 0)).toInt = (x.val : Int) ∧ (idx (ValueIdx.ix2 j 1)).toInt = (y.val : Int) := by
  have hw : ∀ a, scatter_S5888x1_S4096x2_S4096_n_01_01_1.window (ValueIdx.ix1 j) a = 0 := fun a => by
    have ha : a = 0 ∨ a = 1 := by revert a; decide
    rcases ha with rfl | rfl <;> rfl
  have hs0 : scatter_S5888x1_S4096x2_S4096_n_01_01_1.start (ValueIdx.ix1 j) idx 0 = (idx (ValueIdx.ix2 j 0)).toInt := by
    show (idx _).toInt = _
    congr 2
    funext b
    have hb : b = 0 ∨ b = 1 := by revert b; decide
    rcases hb with rfl | rfl <;> rfl
  have hs1 : scatter_S5888x1_S4096x2_S4096_n_01_01_1.start (ValueIdx.ix1 j) idx 1 = (idx (ValueIdx.ix2 j 1)).toInt := by
    show (idx _).toInt = _
    congr 2
    funext b
    have hb : b = 0 ∨ b = 1 := by revert b; decide
    rcases hb with rfl | rfl <;> rfl
  rw [Routing.resultIdx?_ix2, hw, hw, hs0, hs1]
  simp

/-- The token of an assignment: half its position. -/
theorem half_eq (n : ℕ) (hn : n < 4096) :
    floorDiv bcast_S_S4096 (iotaInDim S4096 32 0) (constantI S_ 32 2#32) (ValueIdx.ix1 ⟨n, hn⟩) = BitVec.ofNat 32 (n / 2) := by
  have h : ∀ n : Fin 4096, floorDiv bcast_S_S4096 (iotaInDim S4096 32 0) (constantI S_ 32 2#32) (ValueIdx.ix1 n) = BitVec.ofNat 32 (n.val / 2) := by
    decide +kernel
  exact h ⟨n, hn⟩

/-- A row's word read signed. -/
theorem toInt_small (k : ℕ) (hk : k < 5888) : (BitVec.ofNat 32 k).toInt = (k : Int) := StableHlo.Predicate.toInt_ofNat_small k (by omega)

section
variable (e : ℕ → ℕ) (h8 : ∀ j, j < 4096 → e j < 8) (sl : IVec S4096 32) (hsl : ∀ j : Fin 4096, sl (ValueIdx.ix1 j) = BitVec.ofNat 32 (slot e j.val))

include h8 hsl in
/-- The wrap leaves a row's word as it is. -/
theorem wrapped_slot (j : Fin 4096) : wrapped bcast_S_S4096 5888#32 sl (ValueIdx.ix1 j) = BitVec.ofNat 32 (slot e j.val) :=
  wrapped_apply _ _ sl j _ ((slot_lt_rows e h8 j.isLt).trans (by norm_num)) (hsl j)

include h8 hsl in
/-- An assignment's row holds its token. -/
theorem tokens_apply (j : Fin 4096) : tokens sl (ValueIdx.ix1 ⟨slot e j.val, slot_lt_rows e h8 j.isLt⟩) = BitVec.ofNat 32 (j.val / 2) := by
  unfold tokens tokensAt
  have lands : ∀ i : Fin 4096, scatter_S5888_S4096x1_S4096_n_0_0_1.resultIdx? (ValueIdx.ix1 i) (broadcastInDim S4096x1 ![0] bcast_S4096_S4096x1_0 (wrapped bcast_S_S4096 5888#32 sl))
      = some (ValueIdx.ix1 ⟨slot e j.val, slot_lt_rows e h8 j.isLt⟩) ↔ slot e i.val = slot e j.val := fun i => by
    rw [token_lands, Routing.bcCol, wrapped_slot e h8 sl hsl, toInt_small _ (slot_lt_rows e h8 i.isLt)]
    exact Int.natCast_inj
  refine Routing.scatter_set_hit _ _ _ _ _ _ (fun k hk => ?_) (ValueIdx.ix1 j) ((lands j).2 rfl)
  obtain ⟨i, rfl⟩ : ∃ i : Fin 4096, k = ValueIdx.ix1 i := ⟨k 0, ValueIdx.eq_ix1 k⟩
  rw [half_eq i.val i.isLt, slot_inj e i.isLt j.isLt ((lands i).1 hk)]

/-- Two columns side by side. -/
theorem pair_columns (a b : IVec S4096x1 32) (i : Fin 4096) :
    concatenate S4096x2 1 [⟨S4096x1, a⟩, ⟨S4096x1, b⟩] concatenates_S4096x1_S4096x1_S4096x2_d1 (ValueIdx.ix2 i 0) = a (ValueIdx.ix2 i 0)
      ∧ concatenate S4096x2 1 [⟨S4096x1, a⟩, ⟨S4096x1, b⟩] concatenates_S4096x1_S4096x1_S4096x2_d1 (ValueIdx.ix2 i 1) = b (ValueIdx.ix2 i 0) := by
  constructor <;> pointwise <;> rfl

include h8 hsl in
/-- An assignment's row holds its weight. -/
theorem rowWeights_apply (w : FVec Ideal S2048x2 .f32) (t : Fin 2048) (k : Fin 2) (j : Fin 4096) (hj : j.val = t.val * 2 + k.val) :
    rowWeights sl w (ValueIdx.ix2 ⟨slot e j.val, slot_lt_rows e h8 j.isLt⟩ 0) = w (ValueIdx.ix2 t k) := by
  unfold rowWeights rowWeightsAt
  generalize hA : broadcastInDim S4096x1 ![0] bcast_S4096_S4096x1_0 (wrapped bcast_S_S4096 5888#32 sl) = A
  generalize hB : broadcastInDim S4096x1 ![0] bcast_S4096_S4096x1_0 (broadcastInDim S4096 ![] bcast_S_S4096 (constantI S_ 32 0#32)) = B
  have ha : ∀ i : Fin 4096, A (ValueIdx.ix2 i 0) = BitVec.ofNat 32 (slot e i.val) := fun i => by
    rw [← hA, Routing.bcCol, wrapped_slot e h8 sl hsl]
  have hb : ∀ i : Fin 4096, B (ValueIdx.ix2 i 0) = BitVec.ofNat 32 0 := fun i => by rw [← hB, Routing.bcCol]; rfl
  have lands : ∀ i : Fin 4096, scatter_S5888x1_S4096x2_S4096_n_01_01_1.resultIdx? (ValueIdx.ix1 i) (concatenate S4096x2 1 [⟨S4096x1, A⟩, ⟨S4096x1, B⟩] concatenates_S4096x1_S4096x1_S4096x2_d1)
      = some (ValueIdx.ix2 ⟨slot e j.val, slot_lt_rows e h8 j.isLt⟩ 0) ↔ slot e i.val = slot e j.val := fun i => by
    rw [weight_lands, (pair_columns A B i).1, (pair_columns A B i).2, ha, hb, toInt_small _ (slot_lt_rows e h8 i.isLt), toInt_small 0 (by omega)]
    exact ⟨fun h => Int.natCast_inj.1 h.1, fun h => ⟨Int.natCast_inj.2 h, rfl⟩⟩
  refine Routing.scatter_set_hit _ _ _ _ _ _ (fun q hq => ?_) (ValueIdx.ix1 j) ((lands j).2 rfl)
  obtain ⟨i, rfl⟩ : ∃ i : Fin 4096, q = ValueIdx.ix1 i := ⟨q 0, ValueIdx.eq_ix1 q⟩
  exact Routing.cast21 w shapeCasts_S2048x2_S4096 t k i ((slot_inj e i.isLt j.isLt ((lands i).1 hq)).trans hj)

include h8 hsl in
/-- An assignment's row of the sorted array is its token's. -/
theorem sortedRows_apply (x : FVec Ideal S2048x2048 .f32) (t d : Fin 2048) (j : Fin 4096) (hj : j.val / 2 = t.val) :
    sortedRows x (tokens sl) (ValueIdx.ix2 ⟨slot e j.val, slot_lt_rows e h8 j.isLt⟩ d) = x (ValueIdx.ix2 t d) := by
  unfold sortedRows
  refine Routing.gather_row gather_S2048x2048_S5888x1_S5888x2048_1_0_n_n_0_1_12048 rfl rfl rfl rfl rfl x _ _ d t ?_ (by norm_num)
  rw [Routing.bcCol]
  exact wrapped_apply _ _ _ _ _ (by have := t.isLt; omega) ((tokens_apply e h8 sl hsl j).trans (by rw [hj]))

/-- The first row of tile `q`. -/
theorem bases_apply (q : Fin 23) : bases (ValueIdx.ix1 q) = BitVec.ofNat 32 (q.val * 256) :=
  (BitVec.ofNat_mul q.val 256).symm

/-- A bit extended to a word is one or zero. -/
theorem extend_bool (b : Bool) : BitVec.setWidth 32 (BitVec.ofBool b) = BitVec.ofNat 32 (if b then 1 else 0) := by
  cases b <;> rfl

section
variable (cum : IVec S8 32) (hc : ∀ x : Fin 8, cum (ValueIdx.ix1 x) = BitVec.ofNat 32 (start e (x.val + 1)))

include h8 in
/-- The ends of the experts' rows are not negative as signed words. -/
theorem start_small (x : Fin 8) : start e (x.val + 1) < 2 ^ (32 - 1) :=
  ((start_mono e (by omega : x.val + 1 ≤ 8)).trans (start_le e h8)).trans_lt (by norm_num)

include h8 hc in
/-- The tile of an assignment's row holds its expert's word. -/
theorem tileExpert_apply (j : Fin 4096) (q : Fin 23) (hq : q.val = slot e j.val / 256) : tileExpert cum (ValueIdx.ix1 q) = BitVec.ofNat 32 (e j.val) := by
  have hb := bases_apply q
  unfold tileExpert
  generalize bases = B at hb ⊢
  pointwise
  have ht : ∀ x : Fin 8, BitVec.setWidth 32 (IntOp.cmpi CmpIPredicate.sge (B (ValueIdx.ix1 q)) (cum (ValueIdx.ix1 x)))
      = BitVec.ofNat 32 (if start e (x.val + 1) ≤ slot e j.val / 256 * 256 then 1 else 0) := fun x => by
    have hq' := q.isLt
    rw [hb, hc, WordCmp.cmpi_sge_ofNat (by omega) (start_small e h8 x), hq, extend_bool]
    simp
  show IntOp.minsi (Finset.fold IntOp.addi (0#32) (fun x : Fin 8 => BitVec.setWidth 32 (IntOp.cmpi CmpIPredicate.sge (B (ValueIdx.ix1 q)) (cum (ValueIdx.ix1 x)))) Finset.univ) 7#32 = _
  simp only [ht]
  rw [fold_words, sum_marks (fun x => start e (x + 1) ≤ slot e j.val / 256 * 256), tile_expert e h8 j.isLt]
  have hm : ∀ n : Fin 8, IntOp.minsi (BitVec.ofNat 32 n.val) 7#32 = BitVec.ofNat 32 n.val := by decide
  exact hm ⟨e j.val, h8 _ j.isLt⟩

include h8 hc in
/-- The tile of an assignment's row is marked as holding rows. -/
theorem tileActive_apply (j : Fin 4096) (q : Fin 23) (hq : q.val = slot e j.val / 256) : tileActive cum (ValueIdx.ix1 q) = 1#32 := by
  have hb := bases_apply q
  have h7 := hc 7
  unfold tileActive
  generalize bases = B at hb ⊢
  pointwise
  have hq' := q.isLt
  have hs := tile_active e h8 j.isLt
  show BitVec.setWidth 32 (IntOp.cmpi CmpIPredicate.slt (B (ValueIdx.ix1 q)) (cum (ValueIdx.ix1 7))) = _
  rw [hb, h7, WordCmp.cmpi_slt_ofNat (by omega) (start_small e h8 7), hq]
  have : (7 : Fin 8).val + 1 = 8 := rfl
  rw [this, decide_eq_true hs]
  rfl
end

include h8 hsl in
/-- The result's rows are read back at each assignment's row. -/
theorem takeRows_apply (y : FVec Ideal S5888x2048 .f32) (p : IVec S2048 32) (t d : Fin 2048) (j : Fin 4096) (hp : p (ValueIdx.ix1 t) = sl (ValueIdx.ix1 j)) :
    takeRows y p (ValueIdx.ix2 t d) = y (ValueIdx.ix2 ⟨slot e j.val, slot_lt_rows e h8 j.isLt⟩ d) := by
  unfold takeRows
  refine Routing.gather_row gather_S5888x2048_S2048x1_S2048x2048_1_0_n_n_0_1_12048 rfl rfl rfl rfl rfl y _ t d ⟨slot e j.val, slot_lt_rows e h8 j.isLt⟩ ?_ (by norm_num)
  rw [Routing.bcCol]
  exact wrapped_apply _ _ _ _ _ ((slot_lt_rows e h8 j.isLt).trans (by norm_num)) (hp.trans (hsl j))

/-- Column `k` of the rows laid out by token. -/
theorem column_apply (p : IVec S4096 32) (t : Fin 2048) (j0 j1 : Fin 4096) (h0 : j0.val = t.val * 2 + 0) (h1 : j1.val = t.val * 2 + 1) :
    shapeCast S2048 (extractStridedSlice S2048x1 ![0, 0] (shapeCast S2048x2 p shapeCasts_S4096_S2048x2) slices_S2048x2_S2048x1_0_0) shapeCasts_S2048x1_S2048 (ValueIdx.ix1 t) = p (ValueIdx.ix1 j0)
    ∧ shapeCast S2048 (extractStridedSlice S2048x1 ![0, 1] (shapeCast S2048x2 p shapeCasts_S4096_S2048x2) slices_S2048x2_S2048x1_0_1) shapeCasts_S2048x1_S2048 (ValueIdx.ix1 t) = p (ValueIdx.ix1 j1) := by
  constructor
  · rw [Routing.cast21 _ shapeCasts_S2048x1_S2048 t 0 t (by simp), Routing.slice_col0 _ _ t (by omega)]
    exact Routing.cast12 p shapeCasts_S4096_S2048x2 t 0 j0 h0
  · rw [Routing.cast21 _ shapeCasts_S2048x1_S2048 t 0 t (by simp)]
    refine Eq.trans (b := shapeCast S2048x2 p shapeCasts_S4096_S2048x2 (ValueIdx.ix2 t 1)) ?_ (Routing.cast12 p shapeCasts_S4096_S2048x2 t 1 j1 h1)
    generalize shapeCast S2048x2 p shapeCasts_S4096_S2048x2 = P
    pointwise
    rfl

end

end Cert.KernelIdeal.Hand

end
-- ==== Proof.TileArrays.lean ====
/- The tile computation's blocks as parts of its arrays. -/
module

public import proofs.«01_k».proof.Proof.TileRegion
public import Idealize.ShloMosaic.Lib.ValueIdx
public import Idealize.ShloMosaic.Lib.Pipeline.ValueKit

@[expose] public section

noncomputable section

namespace Cert.KernelIdeal.Hand

open Idealize.ShloMosaic Idealize.ShloMosaic.TcCoe
open Idealize.ShloMosaic.Pipeline (Dat Cfg Window)
open Cert.KernelIdeal.Gen

variable {F : FTy → Type} [FloatOps F] (a : Tables F) (V : Entry F) (c : Dev nD)

/-- There are twenty-three tiles. -/
theorem points1 : (cfg1 a).N = 23 := N_1

/-- A tile as a position of the tables. -/
def tile (t : Fin (cfg1 a).N) : Fin 23 := ⟨t.val, t.isLt.trans_eq N_1⟩

/-- Row `r` of tile `t`. -/
def row1 (t : Fin (cfg1 a).N) (r : Fin 256) : Fin 5888 := ⟨t.val * 256 + r.val, by have := t.isLt.trans_eq N_1; omega⟩

/-- The coordinate of a tile is its number, -/
theorem coord1 (t : Fin grid1.N) : (BitVec.ofNat 32 (grid1.coords t 0).val).toNat = t.val := by revert t; decide +kernel
/-- and the place in the tables that is read there is that number. -/
theorem off1 (t : Fin grid1.N) : k1_off1 (grid1.coords t) 0 = t.val := by revert t; decide +kernel

/-- A tile's block of tokens is the one of its number, -/
theorem index1_0 (t : Fin (cfg1 a).N) : ((cfg1 a).win 0).index t (0 : Fin 2) = t.val ∧ ((cfg1 a).win 0).index t (1 : Fin 2) = 0 := ⟨coord1 t, rfl⟩
/-- so is its block of weights -/
theorem index1_4 (t : Fin (cfg1 a).N) : ((cfg1 a).win 4).index t (0 : Fin 2) = t.val ∧ ((cfg1 a).win 4).index t (1 : Fin 2) = 0 := ⟨coord1 t, rfl⟩
/-- and its block of the result. -/
theorem index1_5 (t : Fin (cfg1 a).N) : ((cfg1 a).win 5).index t (0 : Fin 2) = t.val ∧ ((cfg1 a).win 5).index t (1 : Fin 2) = 0 := ⟨coord1 t, rfl⟩

/-- The word the body reads at a tile is the second table's at it. -/
theorem word1_eq (g : (BufTy.mk S23 .i32).Contents (Elt F)) (t : Fin (cfg1 a).N) : word1 (F := F) g (grid1.coords t) = g (ValueIdx.ix1 (tile a t)) := by
  unfold word1
  refine congrArg g (funext fun b => Fin.ext ?_)
  match b with
  | ⟨0, _⟩ =>
    show k1_off1 (grid1.coords t) 0 + 1 * 0 = t.val
    rw [off1]; omega

/-- A tile's gate matrix is the one the first table names, -/
theorem index1_1 (t : Fin (cfg1 a).N) : ((cfg1 a).win 1).index t (0 : Fin 3) = (a.1 0 (ValueIdx.ix1 (tile a t))).toNat
    ∧ ((cfg1 a).win 1).index t (1 : Fin 3) = 0 ∧ ((cfg1 a).win 1).index t (2 : Fin 3) = 0 :=
  ⟨congrArg BitVec.toNat (word1_eq a (a.1 0) t), rfl, rfl⟩
/-- so is its second matrix -/
theorem index1_2 (t : Fin (cfg1 a).N) : ((cfg1 a).win 2).index t (0 : Fin 3) = (a.1 0 (ValueIdx.ix1 (tile a t))).toNat
    ∧ ((cfg1 a).win 2).index t (1 : Fin 3) = 0 ∧ ((cfg1 a).win 2).index t (2 : Fin 3) = 0 :=
  ⟨congrArg BitVec.toNat (word1_eq a (a.1 0) t), rfl, rfl⟩
/-- and the one of the last product. -/
theorem index1_3 (t : Fin (cfg1 a).N) : ((cfg1 a).win 3).index t (0 : Fin 3) = (a.1 0 (ValueIdx.ix1 (tile a t))).toNat
    ∧ ((cfg1 a).win 3).index t (1 : Fin 3) = 0 ∧ ((cfg1 a).win 3).index t (2 : Fin 3) = 0 :=
  ⟨congrArg BitVec.toNat (word1_eq a (a.1 0) t), rfl, rfl⟩

/-- A tile's block of tokens lies at its rows, -/
theorem emb1_0 (t : Fin (cfg1 a).N) (r : Fin 256) (d : Fin 2048) : (((cfg1 a).win 0).blk t).view.emb (ValueIdx.ix2 r d) = ValueIdx.ix2 (row1 a t r) d := by
  obtain ⟨e0, e1⟩ := index1_0 a t
  funext b; apply Fin.ext
  match b with
  | ⟨0, _⟩ => exact (((cfg1 a).win 0).rect_emb_val t (ValueIdx.ix2 r d) (0 : Fin 2)).trans (by rw [e0]; rfl)
  | ⟨1, _⟩ => exact ((cfg1 a).win 0).rect_emb_val_of_index_zero t (1 : Fin 2) e1 (ValueIdx.ix2 r d)
/-- so does its block of weights -/
theorem emb1_4 (t : Fin (cfg1 a).N) (r : Fin 256) : (((cfg1 a).win 4).blk t).view.emb (ValueIdx.ix2 r (0 : Fin 1)) = ValueIdx.ix2 (row1 a t r) (0 : Fin 1) := by
  obtain ⟨e0, e1⟩ := index1_4 a t
  funext b; apply Fin.ext
  match b with
  | ⟨0, _⟩ => exact (((cfg1 a).win 4).rect_emb_val t (ValueIdx.ix2 r (0 : Fin 1)) (0 : Fin 2)).trans (by rw [e0]; rfl)
  | ⟨1, _⟩ => exact ((cfg1 a).win 4).rect_emb_val_of_index_zero t (1 : Fin 2) e1 (ValueIdx.ix2 r (0 : Fin 1))
/-- and its block of the result. -/
theorem emb1_5 (t : Fin (cfg1 a).N) (r : Fin 256) (d : Fin 2048) : (((cfg1 a).win 5).blk t).view.emb (ValueIdx.ix2 r d) = ValueIdx.ix2 (row1 a t r) d := by
  obtain ⟨e0, e1⟩ := index1_5 a t
  funext b; apply Fin.ext
  match b with
  | ⟨0, _⟩ => exact (((cfg1 a).win 5).rect_emb_val t (ValueIdx.ix2 r d) (0 : Fin 2)).trans (by rw [e0]; rfl)
  | ⟨1, _⟩ => exact ((cfg1 a).win 5).rect_emb_val_of_index_zero t (1 : Fin 2) e1 (ValueIdx.ix2 r d)

section
variable (t : Fin (cfg1 a).N) (e : Fin 8) (he : a.1 0 (ValueIdx.ix1 (tile a t)) = BitVec.ofNat 32 e.val)

include he in
/-- The first table's word at the tile is the expert. -/
theorem expert1 : (a.1 0 (ValueIdx.ix1 (tile a t))).toNat = e.val := by
  rw [he, BitVec.toNat_ofNat]
  exact Nat.mod_eq_of_lt (by have := e.isLt; omega)

include he in
/-- The block of the gate matrix lies at the tile's expert, -/
theorem emb1_1 (d : Fin 2048) (f : Fin 1024) : (((cfg1 a).win 1).blk t).view.emb (ValueIdx.ix3 (0 : Fin 1) d f) = ValueIdx.ix3 e d f := by
  obtain ⟨e0, e1, e2⟩ := index1_1 a t
  funext b; apply Fin.ext
  match b with
  | ⟨0, _⟩ => exact (((cfg1 a).win 1).rect_emb_val t (ValueIdx.ix3 (0 : Fin 1) d f) (0 : Fin 3)).trans (by rw [e0, expert1 a t e he]; exact Nat.mul_one _)
  | ⟨1, _⟩ => exact ((cfg1 a).win 1).rect_emb_val_of_index_zero t (1 : Fin 3) e1 (ValueIdx.ix3 (0 : Fin 1) d f)
  | ⟨2, _⟩ => exact ((cfg1 a).win 1).rect_emb_val_of_index_zero t (2 : Fin 3) e2 (ValueIdx.ix3 (0 : Fin 1) d f)
include he in
/-- so does that of the second -/
theorem emb1_2 (d : Fin 2048) (f : Fin 1024) : (((cfg1 a).win 2).blk t).view.emb (ValueIdx.ix3 (0 : Fin 1) d f) = ValueIdx.ix3 e d f := by
  obtain ⟨e0, e1, e2⟩ := index1_2 a t
  funext b; apply Fin.ext
  match b with
  | ⟨0, _⟩ => exact (((cfg1 a).win 2).rect_emb_val t (ValueIdx.ix3 (0 : Fin 1) d f) (0 : Fin 3)).trans (by rw [e0, expert1 a t e he]; exact Nat.mul_one _)
  | ⟨1, _⟩ => exact ((cfg1 a).win 2).rect_emb_val_of_index_zero t (1 : Fin 3) e1 (ValueIdx.ix3 (0 : Fin 1) d f)
  | ⟨2, _⟩ => exact ((cfg1 a).win 2).rect_emb_val_of_index_zero t (2 : Fin 3) e2 (ValueIdx.ix3 (0 : Fin 1) d f)
include he in
/-- and that of the last. -/
theorem emb1_3 (f : Fin 1024) (d : Fin 2048) : (((cfg1 a).win 3).blk t).view.emb (ValueIdx.ix3 (0 : Fin 1) f d) = ValueIdx.ix3 e f d := by
  obtain ⟨e0, e1, e2⟩ := index1_3 a t
  funext b; apply Fin.ext
  match b with
  | ⟨0, _⟩ => exact (((cfg1 a).win 3).rect_emb_val t (ValueIdx.ix3 (0 : Fin 1) f d) (0 : Fin 3)).trans (by rw [e0, expert1 a t e he]; exact Nat.mul_one _)
  | ⟨1, _⟩ => exact ((cfg1 a).win 3).rect_emb_val_of_index_zero t (1 : Fin 3) e1 (ValueIdx.ix3 (0 : Fin 1) f d)
  | ⟨2, _⟩ => exact ((cfg1 a).win 3).rect_emb_val_of_index_zero t (2 : Fin 3) e2 (ValueIdx.ix3 (0 : Fin 1) f d)
end

/-! The inputs' blocks, as the region finds them. -/

/-- The block of tokens a tile reads, by coordinates, -/
theorem blk1_0_apply (t : Fin (cfg1 a).N) (r : Fin 256) (d : Fin 2048) :
    blk1 a V c 0 t (ValueIdx.ix2 r d) = V c (Proc.devRef .tc main_v80) (ValueIdx.ix2 (row1 a t r) d) :=
  congrArg (V c (Proc.devRef .tc main_v80)) (emb1_0 a t r d)
/-- its block of weights, -/
theorem blk1_4_apply (t : Fin (cfg1 a).N) (r : Fin 256) :
    blk1 a V c 4 t (ValueIdx.ix2 r (0 : Fin 1)) = V c (Proc.devRef .tc main_v56) (ValueIdx.ix2 (row1 a t r) (0 : Fin 1)) :=
  congrArg (V c (Proc.devRef .tc main_v56)) (emb1_4 a t r)
section
variable (t : Fin (cfg1 a).N) (e : Fin 8) (he : a.1 0 (ValueIdx.ix1 (tile a t)) = BitVec.ofNat 32 e.val)
include he
/-- its gate matrix, -/
theorem blk1_1_apply (d : Fin 2048) (f : Fin 1024) :
    blk1 a V c 1 t (ValueIdx.ix3 (0 : Fin 1) d f) = V c (Proc.devRef .tc main_arg3) (ValueIdx.ix3 e d f) :=
  congrArg (V c (Proc.devRef .tc main_arg3)) (emb1_1 a t e he d f)
/-- its second matrix -/
theorem blk1_2_apply (d : Fin 2048) (f : Fin 1024) :
    blk1 a V c 2 t (ValueIdx.ix3 (0 : Fin 1) d f) = V c (Proc.devRef .tc main_arg4) (ValueIdx.ix3 e d f) :=
  congrArg (V c (Proc.devRef .tc main_arg4)) (emb1_2 a t e he d f)
/-- and the one of the last product. -/
theorem blk1_3_apply (f : Fin 1024) (d : Fin 2048) :
    blk1 a V c 3 t (ValueIdx.ix3 (0 : Fin 1) f d) = V c (Proc.devRef .tc main_arg5) (ValueIdx.ix3 e f d) :=
  congrArg (V c (Proc.devRef .tc main_arg5)) (emb1_3 a t e he f d)
end

/-- Every tile's block is written back: the next tile's is another. -/
theorem flush1 (t : Fin (cfg1 a).N) : ((cfg1 a).win 5).flush t = true := by
  have hi := fun t => (index1_5 a t).1
  refine Bool.and_eq_true_iff.2 ⟨rfl, ?_⟩
  rw [Bool.or_eq_true, decide_eq_true_iff, decide_eq_true_iff]
  by_cases h : t.val + 1 = (cfg1 a).N
  · exact .inl h
  · refine .inr ⟨lt_of_le_of_ne (Nat.succ_le_of_lt t.isLt) h, fun he => ?_⟩
    have h0 := congrFun he (0 : Fin 2)
    rw [hi, hi] at h0
    exact absurd h0 (Nat.succ_ne_self _)

/-- The output's row `r` of tile `t` is what the body leaves there. -/
theorem arr1_row (t : Fin (cfg1 a).N) (r : Fin 256) (d : Fin 2048) :
    (dat1 a V c).arrAt 5 (cfg1 a).N (ValueIdx.ix2 (row1 a t r) d) = (dat1 a V c).after 5 t (ValueIdx.ix2 r d) := by
  refine (dat1 a V c).arrAt_forall_of_flushed 5 (fun i v => ∀ (t : Fin (cfg1 a).N) (r : Fin 256) (d : Fin 2048), i = ValueIdx.ix2 (row1 a t r) d → v = (dat1 a V c).after 5 t (ValueIdx.ix2 r d))
    (fun t' _ y t r d h => ?_) _ t _ t.isLt (flush1 a t) (by rw [← emb1_5]; exact View.emb_mem_set _ _) t r d rfl
  obtain ⟨r', d', rfl⟩ : ∃ (r' : Fin 256) (d' : Fin 2048), y = ValueIdx.ix2 r' d' := ⟨y (0 : Fin 2), y (1 : Fin 2), ValueIdx.eq_ix2 y⟩
  have h := (emb1_5 a t' r' d').symm.trans h
  have h0 : t'.val * 256 + r'.val = t.val * 256 + r.val := congrArg Fin.val (congrFun h (0 : Fin 2))
  have h1 : d' = d := congrFun h (1 : Fin 2)
  have hr := r.isLt
  have hr' := r'.isLt
  obtain rfl : t' = t := Fin.ext (by omega)
  obtain rfl : r' = r := Fin.ext (by omega)
  subst h1
  rfl

end Cert.KernelIdeal.Hand

end
-- ==== Proof.TileValue.lean ====
/- What the tile computation's body leaves in its output block over the extended reals, at a tile that holds rows. -/
module

public import proofs.«01_k».proof.Proof.TileRegion
public import proofs.«01_k».proof.Proof.RouterValue
public import Idealize.ShloMosaic.Lib.Pointwise

@[expose] public section

noncomputable section

namespace Cert.KernelIdeal.Hand

open Idealize.ShloMosaic Cert.KernelIdeal.Gen

variable (x0 : Vec Ideal S256x2048 .f32) (x1 x2 : Vec Ideal S1x2048x1024 .f32) (x3 : Vec Ideal S1x1024x2048 .f32) (x4 : Vec Ideal S256x1 .f32)

/-- A block's row against a column of an expert's projection. -/
def gateB (w : Vec Ideal S1x2048x1024 .f32) (r : Fin 256) (f : Fin 1024) : EReal := ∑ d : Fin 2048, x0 (ValueIdx.ix2 r d) * w (ValueIdx.ix3 0 d f)

/-- The body's product at an element: the weighted hidden row against a column. -/
theorem pay1_apply (r : Fin 256) (d : Fin 2048) :
    k1_pay1 (F := Ideal) x0 x1 x2 x4 x3 (ValueIdx.ix2 r d)
      = ∑ f : Fin 1024, gateB x0 x1 r f * Ideal.logistic (gateB x0 x1 r f) * gateB x0 x2 r f * x4 (ValueIdx.ix2 r 0) * x3 (ValueIdx.ix3 0 f d) := by
  unfold k1_pay1 gateB
  pointwise
  rfl

/-- Zero offsets, however they are spelt. -/
theorem off000 : (![0, 0, 0] : Fin 3 → Nat) = fun _ => 0 := by
  decide

/-- At a tile marked as holding rows the block is that product. -/
theorem out1_apply (r : Fin 256) (d : Fin 2048) :
    out1 (F := Ideal) 1#32 x0 x1 x2 x3 x4 (ValueIdx.ix2 r d)
      = ∑ f : Fin 1024, gateB x0 x1 r f * Ideal.logistic (gateB x0 x1 r f) * gateB x0 x2 r f * x4 (ValueIdx.ix2 r 0) * x3 (ValueIdx.ix3 0 f d) := by
  have hc : k1_cond1 1#32 = 1#1 := by decide
  unfold out1
  rw [if_pos hc, View.canon_unit_zero off00]
  simp only [View.ld_unit_zero (S := S256x2048) off00, View.ld_unit_zero (S := S256x1) off00, View.ld_unit_zero (S := S1x2048x1024) off000, View.ld_unit_zero (S := S1x1024x2048) off000]
  exact pay1_apply ..

end Cert.KernelIdeal.Hand

end
-- ==== Proof.KernelValue.lean ====
/- The whole kernel's result over the extended reals: the routed mixture of experts. -/
module

public import proofs.«01_k».proof.Proof.RouterArrays
public import proofs.«01_k».proof.Proof.Rows
public import proofs.«01_k».proof.Proof.TileArrays
public import proofs.«01_k».proof.Proof.TileValue
public import proofs.«01_k».proof.Proof.Weights

@[expose] public section

set_option maxRecDepth 16384

noncomputable section

namespace Cert.KernelIdeal.Hand

open Idealize.ShloMosaic Idealize.ShloMosaic.TcCoe
open Idealize.ShloMosaic.Pipeline (Dat Cfg Window)
open Cert.KernelIdeal.Gen Cert.Moe Cert.Moe.Model

variable (m : (ℓ : Loc nD τ sig) → Buf (Elt Ideal) ℓ) (c : Dev nD)

/-- The experts' gate matrices as given, -/
abbrev argG : Vec Ideal S8x2048x1024 .f32 := m ((c.tc : Thread nD τ).loc main_arg3)
/-- their second matrices -/
abbrev argU : Vec Ideal S8x2048x1024 .f32 := m ((c.tc : Thread nD τ).loc main_arg4)
/-- and those of the last product. -/
abbrev argD : Vec Ideal S8x1024x2048 .f32 := m ((c.tc : Thread nD τ).loc main_arg5)

/-- The place of a flat assignment: its token's place is its position's parity. -/
def expertAt (j : ℕ) : ℕ :=
  if h : j < 4096 then (pick (argX m c) (argR m c) (argB m c) ⟨j / 2, by omega⟩ ⟨j % 2, Nat.mod_lt _ two_pos⟩).val else 0

/-- The expert of an assignment is one of the eight. -/
theorem expertAt_lt (j : ℕ) (hj : j < 4096) : expertAt m c j < 8 := by
  unfold expertAt
  rw [dif_pos hj]
  exact Fin.isLt _

/-- The assignment in place `k` of token `t` is to the token's pick in that place. -/
theorem expertAt_eq (j : Fin 4096) (t : Fin 2048) (k : Fin 2) (hj : j.val = t.val * 2 + k.val) :
    expertAt m c j.val = (pick (argX m c) (argR m c) (argB m c) t k).val := by
  unfold expertAt
  rw [dif_pos j.isLt]
  have h0 : (⟨j.val / 2, by omega⟩ : Fin 2048) = t := Fin.ext (by show j.val / 2 = t.val; omega)
  have h1 : (⟨j.val % 2, Nat.mod_lt _ two_pos⟩ : Fin 2) = k := Fin.ext (by show j.val % 2 = k.val; omega)
  rw [h0, h1]

/-- The chosen experts laid out flat. -/
theorem flat_picks (j : Fin 4096) : flat (picks2 (argX m c) (argR m c) (argB m c)) (ValueIdx.ix1 j) = BitVec.ofNat 32 (expertAt m c j.val) := by
  have hj : j.val = (⟨j.val / 2, by omega⟩ : Fin 2048).val * 2 + (⟨j.val % 2, Nat.mod_lt _ two_pos⟩ : Fin 2).val := by
    show j.val = j.val / 2 * 2 + j.val % 2; omega
  refine (Routing.cast21 _ shapeCasts_S2048x2_S4096 _ _ j hj).trans ?_
  rw [expertAt_eq m c j _ _ hj]
  rfl

/-- Every assignment's row, by its word. -/
theorem slots_picks (j : Fin 4096) : slotsOf (picks2 (argX m c) (argR m c) (argB m c)) (ValueIdx.ix1 j) = BitVec.ofNat 32 (slot (expertAt m c) j.val) :=
  slots_apply (expertAt m c) (expertAt_lt m c) _ (flat_picks m c) j

/-- Every expert's last row, by its word. -/
theorem ends_picks (x : Fin 8) : endsOf (picks2 (argX m c) (argR m c) (argB m c)) (ValueIdx.ix1 x) = BitVec.ofNat 32 (start (expertAt m c) (x.val + 1)) :=
  ends_apply (expertAt m c) (expertAt_lt m c) _ (flat_picks m c) x

/-- The contents the tile computation finds are the routed ones. -/
theorem V11_routed : V11 m (outs m) c = routed (V2 m (outs m) c) := rfl

/-- The experts' matrices are found as given. -/
theorem V11_args : V11 m (outs m) c (Proc.devRef .tc main_arg3) = argG m c ∧ V11 m (outs m) c (Proc.devRef .tc main_arg4) = argU m c
    ∧ V11 m (outs m) c (Proc.devRef .tc main_arg5) = argD m c := by
  refine ⟨?_, ?_, ?_⟩ <;>
  · rw [V11_of m (outs m) c _ (by decide), V10_of m (outs m) c _ (by decide), V9_of m (outs m) c _ (by decide), V8_of m (outs m) c _ (by decide), V7_of m (outs m) c _ (by decide),
      V6_of m (outs m) c _ (by decide), V5_of m (outs m) c _ (by decide), V4_of m (outs m) c _ (by decide), V3_of m (outs m) c _ (by decide), V2_of m (outs m) c _ (by decide), V1_of m c _ (by decide)]

/-- After the router the tokens are as given. -/
theorem V2_arg0 : V2 m (outs m) c (Proc.devRef .tc main_arg0) = argX m c := by
  rw [V2_of m (outs m) c _ (by decide), V1_of m c _ (by decide)]

section
variable (j : Fin 4096)

/-- The row of an assignment. -/
def slotRow : Fin 5888 := ⟨slot (expertAt m c) j.val, slot_lt_rows (expertAt m c) (expertAt_lt m c) j.isLt⟩
/-- Its tile, -/
def slotTile : Fin (cfg1 (tables m)).N := ⟨slot (expertAt m c) j.val / 256, by
  have := slot_lt_rows (expertAt m c) (expertAt_lt m c) j.isLt
  rw [points1]; omega⟩
/-- and the row within it. -/
def slotIn : Fin 256 := ⟨slot (expertAt m c) j.val % 256, Nat.mod_lt _ (by omega)⟩
/-- The row within the tile of an assignment is the assignment's row. -/
theorem slotRow_eq : row1 (tables m) (slotTile m c j) (slotIn m c j) = slotRow m c j :=
  Fin.ext (Nat.div_add_mod' _ _)
/-- The tile of an assignment's row is that row over 256. -/
theorem slotTile_val : (tile (tables m) (slotTile m c j)).val = slot (expertAt m c) j.val / 256 := rfl
end

/-- The first table the tile computation is entered with, -/
theorem tables_0 : (tables m).1 0 = V11 m (outs m) 0 (Proc.devRef .tc main_v68) := rfl
/-- and the second. -/
theorem tables_1 : (tables m).1 1 = V11 m (outs m) 0 (Proc.devRef .tc main_v73) := rfl

section
variable (h : Later m c) (t : Fin 2048) (k : Fin 2) (j : Fin 4096) (hj : j.val = t.val * 2 + k.val)

include h hj in
/-- The expert of the tile of an assignment's row. -/
theorem tile_word : (tables m).1 0 (ValueIdx.ix1 (tile (tables m) (slotTile m c j))) = BitVec.ofNat 32 (pick (argX m c) (argR m c) (argB m c) t k).val := by
  obtain rfl : c = 0 := Subsingleton.elim _ _
  rw [tables_0, V11_routed, routed_tileExpert, V2_idx m 0 h, ← expertAt_eq m 0 j t k hj]
  exact tileExpert_apply (expertAt m 0) (expertAt_lt m 0) _ (ends_picks m 0) j _ (slotTile_val m 0 j)

include h in
/-- The tile of an assignment's row is marked as holding rows. -/
theorem tile_mark : word1 (F := Ideal) ((tables m).1 1) (grid1.coords (slotTile m c j)) = 1#32 := by
  refine (word1_eq (tables m) ((tables m).1 1) (slotTile m c j)).trans ?_
  obtain rfl : c = 0 := Subsingleton.elim _ _
  refine (congrFun (tables_1 m) _).trans ?_
  rw [V11_routed, routed_tileActive, V2_idx m 0 h]
  exact tileActive_apply (expertAt m 0) (expertAt_lt m 0) _ (ends_picks m 0) j _ (slotTile_val m 0 j)

include h hj in
/-- The tile's block of tokens holds the assignment's token at its row, -/
theorem blk1_rows (d : Fin 2048) : blk1 (tables m) (V11 m (outs m)) c 0 (slotTile m c j) (ValueIdx.ix2 (slotIn m c j) d) = argX m c (ValueIdx.ix2 t d) := by
  rw [blk1_0_apply, slotRow_eq, V11_routed, routed_sortedRows, V2_idx m c h, V2_arg0]
  exact sortedRows_apply (expertAt m c) (expertAt_lt m c) _ (slots_picks m c) _ t d j (by omega)

include h hj in
/-- and its block of weights the assignment's weight. -/
theorem blk1_weight : blk1 (tables m) (V11 m (outs m)) c 4 (slotTile m c j) (ValueIdx.ix2 (slotIn m c j) (0 : Fin 1)) = weight (argX m c) (argR m c) (argB m c) t k := by
  rw [blk1_4_apply, slotRow_eq, V11_routed, routed_rowWeights, V2_idx m c h, V2_weights m c h]
  exact rowWeights_apply (expertAt m c) (expertAt_lt m c) _ (slots_picks m c) _ t k j hj

include h hj in
/-- The tile's gate matrix is that of the assignment's expert, -/
theorem blk1_gate (d : Fin 2048) (f : Fin 1024) : blk1 (tables m) (V11 m (outs m)) c 1 (slotTile m c j) (ValueIdx.ix3 (0 : Fin 1) d f)
    = argG m c (ValueIdx.ix3 (pick (argX m c) (argR m c) (argB m c) t k) d f) := by
  rw [blk1_1_apply (tables m) _ _ _ _ (tile_word m c h t k j hj), (V11_args m c).1]
include h hj in
/-- so is its second matrix, -/
theorem blk1_up (d : Fin 2048) (f : Fin 1024) : blk1 (tables m) (V11 m (outs m)) c 2 (slotTile m c j) (ValueIdx.ix3 (0 : Fin 1) d f)
    = argU m c (ValueIdx.ix3 (pick (argX m c) (argR m c) (argB m c) t k) d f) := by
  rw [blk1_2_apply (tables m) _ _ _ _ (tile_word m c h t k j hj), (V11_args m c).2.1]
include h hj in
/-- and so is the one of the last product. -/
theorem blk1_down (f : Fin 1024) (d : Fin 2048) : blk1 (tables m) (V11 m (outs m)) c 3 (slotTile m c j) (ValueIdx.ix3 (0 : Fin 1) f d)
    = argD m c (ValueIdx.ix3 (pick (argX m c) (argR m c) (argB m c) t k) f d) := by
  rw [blk1_3_apply (tables m) _ _ _ _ (tile_word m c h t k j hj), (V11_args m c).2.2]

include h hj in
/-- What the body leaves at an assignment's row: the expert's output for its token, by its weight. -/
theorem after_row (d : Fin 2048) : (dat1 (tables m) (V11 m (outs m)) c).after 5 (slotTile m c j) (ValueIdx.ix2 (slotIn m c j) d)
    = weight (argX m c) (argR m c) (argB m c) t k * expert (argX m c) (argG m c) (argU m c) (argD m c) (pick (argX m c) (argR m c) (argB m c) t k) t d := by
  rw [after1_5, tile_mark m c h j]
  refine (out1_apply _ _ _ _ _ (slotIn m c j) d).trans ?_
  unfold gateB
  have hx := blk1_rows m c h t k j hj
  have hg := blk1_gate m c h t k j hj
  have hu := blk1_up m c h t k j hj
  have hd := blk1_down m c h t k j hj
  have hw := blk1_weight m c h t k j hj
  generalize blk1 (tables m) (V11 m (outs m)) c 0 (slotTile m c j) = B0 at hx ⊢
  generalize blk1 (tables m) (V11 m (outs m)) c 1 (slotTile m c j) = B1 at hg ⊢
  generalize blk1 (tables m) (V11 m (outs m)) c 2 (slotTile m c j) = B2 at hu ⊢
  generalize blk1 (tables m) (V11 m (outs m)) c 3 (slotTile m c j) = B3 at hd ⊢
  generalize blk1 (tables m) (V11 m (outs m)) c 4 (slotTile m c j) = B4 at hw ⊢
  obtain ⟨r, hr, e⟩ := weight_real (argX m c) (argR m c) (argB m c) t k
  rw [e] at hw ⊢
  unfold expert
  rw [← share_sum hr]
  refine Finset.sum_congr rfl fun f _ => ?_
  unfold Moe.hidden Moe.gate
  simp only [hx, hg, hu]
  rw [show B4 (ValueIdx.ix2 (slotIn m c j) 0) = (r : EReal) from hw, show B3 (ValueIdx.ix3 0 f d) = _ from hd f d, mul_comm _ (r : EReal), mul_assoc]

include h hj in
/-- An assignment's row of the tile computation's result. -/
theorem V12_row (d : Fin 2048) : V12 m (outs m) c (Proc.devRef .tc main_v81) (ValueIdx.ix2 (slotRow m c j) d)
    = weight (argX m c) (argR m c) (argB m c) t k * expert (argX m c) (argG m c) (argU m c) (argD m c) (pick (argX m c) (argR m c) (argB m c) t k) t d := by
  rw [V12_eq]
  refine (congrFun (Pipeline.afterRegion_arr (dat1 (tables m) (V11 m (outs m)) c) (V11 m (outs m) c) (launch1 (F := Ideal)).win.arr_inj 5) (ValueIdx.ix2 (slotRow m c j) d)).trans ?_
  rw [← slotRow_eq]
  exact (arr1_row (tables m) (V11 m (outs m)) c (slotTile m c j) (slotIn m c j) d).trans (after_row m c h t k j hj d)
end

/-- The kernel's first result is the mixture. -/
theorem V13_out (h : Later m c) : V13 m (outs m) c (Proc.devRef .tc main_v101) = moe (argX m c) (argR m c) (argB m c) (argG m c) (argU m c) (argD m c) := by
  refine (summed_out (V12 m (outs m) c)).trans ?_
  have hs : V12 m (outs m) c (Proc.devRef .tc main_v34) = slotsOf (picks2 (argX m c) (argR m c) (argB m c)) := by
    rw [V12_of m (outs m) c _ (by decide), V11_routed, routed_slots, V2_idx m c h]
  rw [hs]
  funext i
  obtain ⟨t, d, rfl⟩ : ∃ (t d : Fin 2048), i = ValueIdx.ix2 t d := ⟨i 0, i 1, ValueIdx.eq_ix2 i⟩
  have col := column_apply (slotsOf (picks2 (argX m c) (argR m c) (argB m c))) t ⟨t.val * 2 + 0, by omega⟩ ⟨t.val * 2 + 1, by omega⟩ rfl rfl
  show takeRows _ _ (ValueIdx.ix2 t d) + takeRows _ _ (ValueIdx.ix2 t d) = _
  rw [takeRows_apply (expertAt m c) (expertAt_lt m c) _ (slots_picks m c) _ _ t d _ col.1, takeRows_apply (expertAt m c) (expertAt_lt m c) _ (slots_picks m c) _ _ t d _ col.2]
  unfold moe
  rw [Fin.sum_univ_two]
  exact congrArg₂ (· + ·) (V12_row m c h t 0 _ rfl d) (V12_row m c h t 1 _ rfl d)

/-- The kernel's second result is the chosen experts. -/
theorem V13_idx (h : Later m c) : V13 m (outs m) c (Proc.devRef .tc main_v2_0) = picks2 (argX m c) (argR m c) (argB m c) := by
  rw [V13_of m (outs m) c _ (by decide), V12_of m (outs m) c _ (by decide), V11_of m (outs m) c _ (by decide), V10_of m (outs m) c _ (by decide), V9_of m (outs m) c _ (by decide), V8_of m (outs m) c _ (by decide),
    V7_of m (outs m) c _ (by decide), V6_of m (outs m) c _ (by decide), V5_of m (outs m) c _ (by decide), V4_of m (outs m) c _ (by decide), V3_of m (outs m) c _ (by decide), V2_idx m c h]

end Cert.KernelIdeal.Hand

end
-- ==== Proof.ReferenceValue.lean ====
/- What the reference computes: the two best experts, and the weighted sum of their outputs. -/
module

public import proofs.«01_k».proof.Proof.Weights
public import proofs.«01_k».proof.Proof.Gen.ReferenceIdeal.Read
public import proofs.«01_k».proof.Proof.Gen.ReferenceIdeal
public import Idealize.ShloMosaic.Lib.Pointwise

@[expose] public section

set_option maxRecDepth 16384

noncomputable section

namespace Cert.ReferenceIdeal.Hand

open Idealize.ShloMosaic Idealize.ShloMosaic.TcCoe
open Cert.ReferenceIdeal.Gen Cert.ReferenceIdeal.Read Cert.Moe

variable (x : (⟨S2048x2048, .f32⟩ : BufTy).Contents (Elt Ideal)) (wr : (⟨S8x2048, .f32⟩ : BufTy).Contents (Elt Ideal)) (bias : (⟨S8, .f32⟩ : BufTy).Contents (Elt Ideal))
  (wg wu : (⟨S8x2048x1024, .f32⟩ : BufTy).Contents (Elt Ideal)) (wd : (⟨S8x1024x2048, .f32⟩ : BufTy).Contents (Elt Ideal))

/-- The reference's score: its sigmoid is the logistic function. -/
theorem v7_apply (t : Fin 2048) (e : Fin 8) : val_main_v7 (F := Ideal) x wr (ValueIdx.ix2 t e) = score x wr t e := by
  unfold val_main_v7 val_main_v6 val_main_v5 val_main_v4 val_main_v3 val_main_v2 val_main_v1 val_main_v0 val_main_cst val_main_cst_0
  pointwise
  rfl

/-- The score it chooses by. -/
theorem v10_apply (t : Fin 2048) (e : Fin 8) : val_main_v10 (F := Ideal) x wr bias (ValueIdx.ix2 t e) = choice x wr bias t e := by
  have h := v7_apply x wr t e
  unfold val_main_v10 val_main_v9 val_main_v8
  generalize val_main_v7 (F := Ideal) x wr = s at h ⊢
  pointwise
  rw [h]
  rfl

/-- The reference's gate projection, by coordinates, -/
theorem v21_apply (e : Fin 8) (t : Fin 2048) (f : Fin 1024) : val_main_v21 (F := Ideal) x wg (ValueIdx.ix3 e t f) = gate x wg e t f := by
  unfold val_main_v21 val_main_v20
  pointwise
  exact Finset.sum_congr rfl fun _ _ => mul_comm _ _
/-- and its second projection. -/
theorem v23_apply (e : Fin 8) (t : Fin 2048) (f : Fin 1024) : val_main_v23 (F := Ideal) x wu (ValueIdx.ix3 e t f) = gate x wu e t f := by
  unfold val_main_v23 val_main_v22
  pointwise
  exact Finset.sum_congr rfl fun _ _ => mul_comm _ _

/-- The gated hidden values. -/
theorem v25_apply (e : Fin 8) (t : Fin 2048) (f : Fin 1024) : val_main_v25 (F := Ideal) x wg wu (ValueIdx.ix3 e t f) = hidden x wg wu e t f := by
  have hg := v21_apply x wg e t f
  have hu := v23_apply x wu e t f
  unfold val_main_v25 val_main_v24 val_main_call2_v5 val_main_call2_v4 val_main_call2_v3 val_main_call2_v2 val_main_call2_v1 val_main_call2_v0 val_main_call2_cst val_main_call2_cst_0
  generalize val_main_v21 (F := Ideal) x wg = g at hg ⊢
  generalize val_main_v23 (F := Ideal) x wu = u at hu ⊢
  pointwise
  rw [hg, hu]
  rfl

/-- Each expert's output. -/
theorem v26_apply (e : Fin 8) (t d : Fin 2048) : val_main_v26 (F := Ideal) x wg wu wd (ValueIdx.ix3 e t d) = expert x wg wu wd e t d := by
  have h := v25_apply x wg wu e t
  unfold val_main_v26
  generalize val_main_v25 (F := Ideal) x wg wu = g at h ⊢
  pointwise
  exact Finset.sum_congr rfl fun f _ => congrArg (· * _) (h f)

/-- The sort puts the best expert first and the second after it. -/
theorem indices_apply (t : Fin 2048) (k : Fin 2) : val_main_indices (F := Ideal) x wr bias (ValueIdx.ix2 t k) = BitVec.ofNat 32 (pick x wr bias t k).val := by
  have h := v10_apply x wr bias t
  unfold val_main_indices
  generalize val_main_v10 (F := Ideal) x wr bias = s at h ⊢
  have hs : ∀ (j : S2048x8.Idx) (e : Fin 8), (j 0 : Nat) = t.val → s (j.along 1 e) = choice x wr bias t e := fun j e hj => by
    rw [← h e]
    congr 1
    funext a; apply Fin.ext
    match a with
    | ⟨0, _⟩ => exact hj
    | ⟨1, _⟩ => rfl
  unfold Host.topK Host.sort2
  pointwise
  have ht : ∀ j : S2048x8.Idx, (j 0 : Nat) = t.val → ∀ k : Fin 2, sortedFrom (n := 8) (fun k k' =>
      FloatOps.cmpfTotal (F := Ideal) (φ := .f32) CmpDirection.gt (s (j.along 1 k)) (s (j.along 1 k')) == 1#1) ⟨k.val, by omega⟩ = pick x wr bias t k := by
    intro j hj k
    obtain ⟨h0, h1⟩ := sorted_top2 (picks x wr bias t) (fun k k' =>
      FloatOps.cmpfTotal (F := Ideal) (φ := .f32) CmpDirection.gt (s (j.along 1 k)) (s (j.along 1 k')) == 1#1) (fun k k' => by
        rw [hs j k hj, hs j k' hj]
        show (BitVec.ofBool (decide (choice x wr bias t k' < choice x wr bias t k)) == 1#1) = _
        cases decide (choice x wr bias t k' < choice x wr bias t k) <;> rfl)
    match k with
    | ⟨0, _⟩ => exact h0
    | ⟨1, _⟩ => exact h1
  refine congrArg (fun q : Fin 8 => BitVec.ofNat 32 q.val) ?_
  exact ht (ValueIdx.ix2 t ⟨k.val, by omega⟩) rfl k

/-- A chosen expert's word is in range, read signed, and is left as it is by the wrap of negative ones. -/
theorem in_range (e : Fin 8) :
    Scalar.select (IntOp.cmpi CmpIPredicate.slt (BitVec.ofNat 32 e.val) 0#32) (IntOp.addi (BitVec.ofNat 32 e.val) 8#32) (BitVec.ofNat 32 e.val) = BitVec.ofNat 32 e.val
    ∧ IntOp.andi (IntOp.cmpi CmpIPredicate.sge (BitVec.ofNat 32 e.val) 0#32) (IntOp.cmpi CmpIPredicate.sle (BitVec.ofNat 32 e.val) 7#32) = 1#1
    ∧ min (BitVec.ofNat 32 e.val).toInt.toNat 7 = e.val := by
  revert e
  decide

/-- Every chosen expert is in range. -/
theorem v12_apply (t : Fin 2048) (k : Fin 2) : val_main_call0_v12 (F := Ideal) x wr bias (ValueIdx.ix2 t k) = 1#1 := by
  have h := indices_apply x wr bias t k
  unfold val_main_call0_v12 val_main_call0_v11 val_main_call0_v10 val_main_call0_v9 val_main_call0_v8 val_main_call0_v7 val_main_call0_v6 val_main_call0_v5 val_main_call0_v4 val_main_call0_v3 val_main_call0_v2 val_main_call0_v1 val_main_call0_v0
    val_main_call0_c val_main_call0_c_0 val_main_call0_c_1 val_main_call0_c_2 val_main_call0_c_3
  generalize val_main_indices (F := Ideal) x wr bias = s at h ⊢
  pointwise
  obtain ⟨h1, h2, -⟩ := in_range (pick x wr bias t k)
  rw [h, h1, h2]
  decide

/-- The gather along the experts, read at an entry: the row's element at the index, read signed and clamped. -/
theorem gather_along {w : Nat} (g : S2048x8.Idx → EReal) (idx : IVec S2048x2x1 w) (t : Fin 2048) (k : Fin 2) :
    Host.gather gather_S2048x8_S2048x2x1_S2048x2_n_1_0_0_1_2_11 g idx (ValueIdx.ix2 t k)
      = g (ValueIdx.ix2 t ⟨min (idx (ValueIdx.ix3 t k 0)).toInt.toNat 7, by omega⟩) := by
  unfold Host.gather
  congr 1
  funext a
  refine Fin.ext ?_
  let dd := gather_S2048x8_S2048x2x1_S2048x2_n_1_0_0_1_2_11
  show dd.start (ValueIdx.ix2 t k) idx a + dd.batchCoord (ValueIdx.ix2 t k) a + dd.offCoord (ValueIdx.ix2 t k) a = _
  have h01 : a = 1 ∨ a = 0 := by
    match a with
    | ⟨0, _⟩ => exact Or.inr rfl
    | ⟨1, _⟩ => exact Or.inl rfl
  rcases h01 with rfl | rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ dd.startIndexMap from List.mem_singleton.mpr rfl)]
    have hsi : dd.siIdx (ValueIdx.ix2 t k) ⟨List.idxOf (1 : Fin 2) dd.startIndexMap, List.idxOf_lt_length_iff.2 (List.mem_singleton.mpr rfl)⟩ = ValueIdx.ix3 t k 0 := by
      funext b; refine Fin.ext ?_
      match b with
      | ⟨0, _⟩ => rfl
      | ⟨1, _⟩ => rfl
      | ⟨2, _⟩ => rfl
    rw [hsi]
    rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ dd.operandBatchingDims from List.mem_singleton.mpr rfl)]
    rfl

/-- The chosen experts' scores. -/
theorem v13_apply (t : Fin 2048) (k : Fin 2) : val_main_call0_v13 (F := Ideal) x wr bias (ValueIdx.ix2 t k) = score x wr t (pick x wr bias t k) := by
  have h := indices_apply x wr bias t k
  obtain ⟨h1, -, h3⟩ := in_range (pick x wr bias t k)
  have hi : val_main_call0_v5 (F := Ideal) x wr bias (ValueIdx.ix3 t k 0) = BitVec.ofNat 32 (pick x wr bias t k).val := by
    unfold val_main_call0_v5 val_main_call0_v4 val_main_call0_v3 val_main_call0_v2 val_main_call0_v1 val_main_call0_v0 val_main_call0_c val_main_call0_c_0
    generalize val_main_indices (F := Ideal) x wr bias = s at h ⊢
    pointwise
    show Scalar.select (IntOp.cmpi CmpIPredicate.slt (s (ValueIdx.ix2 t k)) 0#32) (IntOp.addi (s (ValueIdx.ix2 t k)) 8#32) (s (ValueIdx.ix2 t k)) = _
    rw [h, h1]
  unfold val_main_call0_v13
  generalize val_main_call0_v5 (F := Ideal) x wr bias = idx at hi ⊢
  refine (gather_along _ idx t k).trans ?_
  refine (congrArg (fun q : Fin 8 => val_main_v7 (F := Ideal) x wr (ValueIdx.ix2 t q)) (?_ : _ = pick x wr bias t k)).trans (v7_apply x wr t _)
  apply Fin.ext
  show min (idx (ValueIdx.ix3 t k 0)).toInt.toNat 7 = _
  rw [hi, h3]

/-- Their weights. -/
theorem v17_apply (t : Fin 2048) (k : Fin 2) : val_main_v17 (F := Ideal) x wr bias (ValueIdx.ix2 t k) = weight x wr bias t k := by
  have h : ∀ k, val_main_v11 (F := Ideal) x wr bias (ValueIdx.ix2 t k) = score x wr t (pick x wr bias t k) := fun k => by
    rw [val_main_v11_apply, v12_apply, v13_apply]
    rfl
  unfold val_main_v17 val_main_v16 val_main_v15 val_main_v14 val_main_v13 val_main_v12 val_main_cst_1 val_main_cst_2
  generalize val_main_v11 (F := Ideal) x wr bias = g at h ⊢
  pointwise
  have hs : ∑ k : Fin 2, g (ValueIdx.ix2 t k) = score x wr t (pick0 x wr bias t) + score x wr t (pick1 x wr bias t) := by
    rw [Fin.sum_univ_two, h, h]
    rfl
  rw [h]
  exact congrArg (fun q => Ideal.div _ (q + tiny)) hs

/-- A token's weight for an expert: the weights of the places that chose it. -/
theorem v19_apply (t : Fin 2048) (e : Fin 8) : val_main_v19 (F := Ideal) x wr bias (ValueIdx.ix2 t e) = ∑ k : Fin 2, if pick x wr bias t k = e then weight x wr bias t k else 0 := by
  have h := indices_apply x wr bias t
  have h' := v17_apply x wr bias t
  unfold val_main_v19 val_main_v18 val_main_call1_v4 val_main_call1_v3 val_main_call1_v2 val_main_call1_v1 val_main_call1_v0
  generalize val_main_indices (F := Ideal) x wr bias = s at h ⊢
  generalize val_main_v17 (F := Ideal) x wr bias = g at h' ⊢
  pointwise
  refine Finset.sum_congr rfl fun k _ => ?_
  show FloatOps.uitofp (F := Ideal) FTy.f32 (IntOp.cmpi CmpIPredicate.eq (s (ValueIdx.ix2 t k)) (BitVec.ofNat 32 e.val)) * g (ValueIdx.ix2 t k) = _
  rw [h, h']
  have hc : ∀ a e : Fin 8, IntOp.cmpi CmpIPredicate.eq (BitVec.ofNat 32 a.val) (BitVec.ofNat 32 e.val) = if a = e then 1#1 else 0#1 := by decide
  rw [hc]
  split
  · show (((1#1 : BitVec 1).toNat : ℝ) : EReal) * _ = _
    simp
  · show (((0#1 : BitVec 1).toNat : ℝ) : EReal) * _ = _
    simp

/-- The reference's output: each token's two chosen experts, by their weights. -/
theorem v27_eq : val_main_v27 (F := Ideal) x wr bias wg wu wd = moe x wr bias wg wu wd := by
  funext i
  obtain ⟨t, d, rfl⟩ : ∃ (t d : Fin 2048), i = ValueIdx.ix2 t d := ⟨i 0, i 1, ValueIdx.eq_ix2 i⟩
  have h := v19_apply x wr bias t
  have h' := fun e => v26_apply x wg wu wd e t d
  unfold val_main_v27
  generalize val_main_v19 (F := Ideal) x wr bias = s at h ⊢
  generalize val_main_v26 (F := Ideal) x wg wu wd = g at h' ⊢
  pointwise
  show ∑ e : Fin 8, s (ValueIdx.ix2 t e) * g (ValueIdx.ix3 e t d) = ∑ k : Fin 2, weight x wr bias t k * expert x wg wu wd (pick x wr bias t k) t d
  have hn : ∀ k, 0 ≤ weight x wr bias t k := fun k => by
    obtain ⟨r, hr, e⟩ := weight_real x wr bias t k
    rw [e]; exact_mod_cast hr
  have hp : ∀ (a : Fin 8) (w : EReal), ∑ e : Fin 8, (if a = e then w else 0) * expert x wg wu wd e t d = w * expert x wg wu wd a t d := fun a w => by
    rw [Finset.sum_eq_single a (fun b _ hb => by rw [if_neg (Ne.symm hb), zero_mul]) (fun h => absurd (Finset.mem_univ a) h), if_pos rfl]
  rw [Fin.sum_univ_two, ← hp, ← hp, ← Finset.sum_add_distrib]
  refine Finset.sum_congr rfl fun e _ => ?_
  rw [h, h', Fin.sum_univ_two, EReal.right_distrib_of_nonneg]
  · split
    · exact hn 0
    · exact le_rfl
  · split
    · exact hn 1
    · exact le_rfl

/-- The reference's second result. -/
theorem indices_eq : val_main_indices (F := Ideal) x wr bias = picks2 x wr bias := by
  funext i
  obtain ⟨t, k, rfl⟩ : ∃ (t : Fin 2048) (k : Fin 2), i = ValueIdx.ix2 t k := ⟨i 0, i 1, ValueIdx.eq_ix2 i⟩
  exact indices_apply x wr bias t k

end Cert.ReferenceIdeal.Hand

end
-- ==== Proof.Algebraic.lean ====
/- The kernel and the reference give equal results over the extended reals. -/
module

public import proofs.«01_k».proof.Defs
public import proofs.«01_k».proof.Proof.KernelValue
public import proofs.«01_k».proof.Proof.ReferenceValue
public import proofs.«01_k».proof.Proof.Gen.Pre_later_bias_finite
public import Idealize.ShloMosaic.Lib.Claim
public import Idealize.ShloMosaic.Lib.Pointwise

@[expose] public section

set_option maxRecDepth 16384

noncomputable section

namespace Cert.Hand

open Idealize.ShloMosaic Idealize.ShloMosaic.TcCoe Idealize.SL.Sem

attribute [local instance] Cert.KernelIdeal.Gen.facts Cert.ReferenceIdeal.Gen.facts Cert.Pre_later_bias_finite.Gen.facts

/-- A disjunction of bits that are all zero is zero. -/
theorem fold_ori_zero {α : Type} (s : Finset α) (f : α → BitVec 1) (hf : ∀ k, f k = 0#1) : Finset.fold IntOp.ori (0#1) f s = 0#1 := by
  classical
  induction s using Finset.induction_on with
  | empty => rfl
  | insert a s ha ih => rw [Finset.fold_insert ha, ih, hf]; decide

/-- Where the precondition holds, some expert after the first has a bias that is not minus infinity. -/
theorem later_of_pre (x : FVec Ideal Cert.Pre_later_bias_finite.S2048x2048 .f32) (wr : FVec Ideal Cert.Pre_later_bias_finite.S8x2048 .f32)
    (b : FVec Ideal Cert.Pre_later_bias_finite.S8 .f32) (wg wu : FVec Ideal Cert.Pre_later_bias_finite.S8x2048x1024 .f32)
    (wd : FVec Ideal Cert.Pre_later_bias_finite.S8x1024x2048 .f32)
    (h : Cert.Pre_later_bias_finite.fn (F := Ideal) x wr b wg wu wd = fun _ => 1#1) : ∃ j : Fin 8, j ≠ 0 ∧ b (ValueIdx.ix1 j) ≠ ⊥ := by
  by_contra hn
  push Not at hn
  have h0 := congrFun h ValueIdx.ix0
  unfold Cert.Pre_later_bias_finite.fn at h0
  simp only [] at h0
  pointwise at h0
  refine absurd (h0.symm.trans (fold_ori_zero Finset.univ _ fun k => ?_)) (by decide)
  have hb : b (ValueIdx.ix1 (⟨1 + k.val, by omega⟩ : Fin 8)) = ⊥ := hn _ fun h => by have := congrArg Fin.val h; simp at this
  exact congrArg BitVec.ofBool (decide_eq_false fun hlt => not_lt_bot (lt_of_lt_of_eq hlt hb))

/-- THE VALUE: from memories that agree on the arguments, both programs end with the routed mixture of experts and with the
    chosen experts' numbers. -/
theorem algebraic : Cert.algebraic_KernelIdeal_ReferenceIdeal_pre_later_bias_finite := by
  intro m g m' g' hpre hagree
  have hl : ∀ c, Cert.KernelIdeal.Hand.Later m c := fun c => later_of_pre _ _ _ _ _ _ (hpre c)
  refine ⟨fun c => Cert.Moe.moe (Cert.KernelIdeal.Hand.argX m c) (Cert.KernelIdeal.Hand.argR m c) (Cert.KernelIdeal.Hand.argB m c) (Cert.KernelIdeal.Hand.argG m c) (Cert.KernelIdeal.Hand.argU m c) (Cert.KernelIdeal.Hand.argD m c),
    fun c => Cert.Moe.picks2 (Cert.KernelIdeal.Hand.argX m c) (Cert.KernelIdeal.Hand.argR m c) (Cert.KernelIdeal.Hand.argB m c), ?_, ?_⟩
  · exact (θ_run _ _ _).mono (fun _ h c =>
      ⟨(Cert.KernelIdeal.Hand.run_reads m (h.1 c) Cert.KernelIdeal.main_v101 rfl).trans (Cert.KernelIdeal.Hand.V13_out m c (hl c)),
        (Cert.KernelIdeal.Hand.run_reads m (h.1 c) Cert.KernelIdeal.main_v2_0 rfl).trans (Cert.KernelIdeal.Hand.V13_idx m c (hl c)),
        (Cert.KernelIdeal.Hand.run_reads m (h.1 c) Cert.KernelIdeal.main_arg0 rfl).trans (Cert.KernelIdeal.Gen.V13_main_arg0 m _ c),
        (Cert.KernelIdeal.Hand.run_reads m (h.1 c) Cert.KernelIdeal.main_arg1 rfl).trans (Cert.KernelIdeal.Gen.V13_main_arg1 m _ c),
        (Cert.KernelIdeal.Hand.run_reads m (h.1 c) Cert.KernelIdeal.main_arg2 rfl).trans (Cert.KernelIdeal.Gen.V13_main_arg2 m _ c),
        (Cert.KernelIdeal.Hand.run_reads m (h.1 c) Cert.KernelIdeal.main_arg3 rfl).trans (Cert.KernelIdeal.Gen.V13_main_arg3 m _ c),
        (Cert.KernelIdeal.Hand.run_reads m (h.1 c) Cert.KernelIdeal.main_arg4 rfl).trans (Cert.KernelIdeal.Gen.V13_main_arg4 m _ c),
        (Cert.KernelIdeal.Hand.run_reads m (h.1 c) Cert.KernelIdeal.main_arg5 rfl).trans (Cert.KernelIdeal.Gen.V13_main_arg5 m _ c)⟩)
      (Cert.KernelIdeal.Hand.run (F := Ideal) m g)
  · refine (θ_run _ _ _).mono (fun r h c => ?_) (Cert.ReferenceIdeal.Value.run (F := Ideal) m' g')
    obtain ⟨h27, hix, ha⟩ := h c
    obtain ⟨e0, e1, e2, e3, e4, e5⟩ := hagree c
    refine ⟨h27.trans ?_, hix.trans ?_, ha⟩
    · rw [Cert.ReferenceIdeal.Read.val_main_v27_eq, Cert.ReferenceIdeal.Hand.v27_eq, e0, e1, e2, e3, e4, e5]
    · refine (Cert.ReferenceIdeal.Read.val_main_indices_eq _ _ _).trans ?_
      rw [Cert.ReferenceIdeal.Hand.indices_eq, e0, e1, e2]

end Cert.Hand

end
-- ==== Proof.lean ====
module

public import proofs.«01_k».proof.Defs
public import proofs.«01_k».proof.Proof.Frames
public import proofs.«01_k».proof.Proof.Algebraic

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_later_bias_finite.Gen.facts,
    Cert.Hand.frame_kernel, Cert.Hand.frame_ideal, Cert.Hand.frame_ideal_pre, Cert.Hand.frame_reference, Cert.Hand.frame_reference_pre,
    trivial, Cert.Hand.algebraic⟩

end Cert.Proof

end
